-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4096x1024 : Shape := ⟨2, ![4096, 1024]⟩
abbrev S4x1024x1024 : Shape := ⟨3, ![4, 1024, 1024]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local _ .vmem, ⟨0, _⟩ => ⟨S4096x1024, .f32⟩
  | .local _ .vmem, ⟨1, _⟩ => ⟨S4x1024x1024, .f32⟩
  | .local _ .vmem, ⟨2, _⟩ => ⟨S4x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Group.lean ====
/- Copies in groups: several transfers of one size started one after another on one semaphore, and the
   same transfers waited for one after another. Stated once for any number of transfers. -/
module

public import Idealize.ShloMosaic.Lib.Batch
public import Idealize.ShloMosaic.Lib.Tactic

@[expose] public section

noncomputable section

namespace Cert.Group

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

/-- `n` programs in sequence. -/
def seqFin {Ef : Type → Type} : (n : ℕ) → (Fin n → Prog Ef PUnit) → Prog Ef PUnit
  | 0, _ => pure ⟨⟩
  | n + 1, f => do f 0; seqFin n fun j => f j.succ

variable {nD : Nat} {τ : Topo} {sig : RefSig} {Val : EltTy → Type} {U : Type} [URA U]

local notation "𝕄" => MT nD τ sig Unit Val ℕ U ℕ

variable (EC : UEmb Counters (MT nD τ sig Unit Val ℕ U ℕ))
variable {Λ : Labels} {defs : Defs nD τ sig Val Λ} (𝒱 : Variants) (c : Thread nD τ) (bd : Option 𝒱.V)

/-- A sequence runs through stages `I 0, …, I n` when each of its programs takes one stage to the next. -/
theorem wp_seqFin : ∀ {n : ℕ} (I : ℕ → sProp 𝕄) (f : Fin n → Prog (TpuEff nD τ sig Val Λ c.2) PUnit)
    (_ : ∀ (j : ℕ) (hj : j < n) (Q : PUnit → sProp 𝕄),
      I j ⊢ iprop((I (j + 1) -∗ Q ⟨⟩) -∗ wp frame (wpE defs 𝒱 c bd) Set.univ (f ⟨j, hj⟩) Q)) (Q : PUnit → sProp 𝕄),
    I 0 ⊢ iprop((I n -∗ Q ⟨⟩) -∗ wp frame (wpE defs 𝒱 c bd) Set.univ (seqFin n f) Q)
  | 0, I, f, _, Q => by
    unfold seqFin
    rw [wp_pure]
    iintro H Hk
    imodintro
    iapply Hk
    iexact H
  | n + 1, I, f, h, Q => by
    unfold seqFin
    rw [wp_bind]
    iintro H Hk
    iapply (h 0 (Nat.succ_pos n) _) $$ H
    iintro H
    iapply (wp_seqFin (fun j => I (j + 1)) (fun j => f j.succ) (fun j hj Q => h (j + 1) (Nat.succ_lt_succ hj) Q) Q) $$ H
    iexact Hk

/-- Two families held over the same indices, taken together; -/
theorem bigSep_pair {ι : Type} {S : Finset ι} {A B : ι → sProp 𝕄} :
    iprop(bigSep S A ∗ bigSep S B) ⊢ bigSep S fun t => iprop(A t ∗ B t) :=
  Entails.of_eq (bigSep_sep S A B).symm
/-- and taken apart. -/
theorem bigSep_unpair {ι : Type} {S : Finset ι} {A B : ι → sProp 𝕄} :
    bigSep S (fun t => iprop(A t ∗ B t)) ⊢ iprop(bigSep S A ∗ bigSep S B) :=
  Entails.of_eq (bigSep_sep S A B)

section Copies

variable {sp sp' : Space} {s : Shape} {e : EltTy} {n : ℕ}
variable (src : Fin n → Memref sig c.2.kind sp s e) (dst : Fin n → Memref sig c.2.kind sp' s e)
variable (fs : (j : Fin n) → Buf Val ((src j).view.loc c)) (g : (j : Fin n) → Buf Val ((dst j).view.loc c))

/-- What transfer `j` delivers: its destination at the contents `g j`, and its source back. -/
def landed (j : Fin n) : sProp 𝕄 :=
  iprop(((dst j).view.loc c ↦[(dst j).view.set]{fullShare} g j) ∗ ((src j).view.loc c ↦[(src j).view.set]{fullShare} fs j))

instance landed_storable (j : Fin n) : Storable (upEmb : UEmb _ 𝕄) (landed c src dst fs g j) := by
  unfold landed; infer_instance

/-- The group in flight on semaphore `sm`, all started and none awaited. -/
def flying (sm : DmaSem sig) (N : ℕ) : sProp 𝕄 := Batch EC c (.dma sm) () N (landed c src dst fs g) n 0

/-- The pieces the transfers from `k` on still need. -/
def needs (k : ℕ) : sProp 𝕄 :=
  bigSep (pending (n := n) k) fun j => iprop(((src j).view.loc c ↦[(src j).view.set]{fullShare} fs j)
    ∗ ∃ fd : Buf Val ((dst j).view.loc c), (dst j).view.loc c ↦[(dst j).view.set]{fullShare} fd)

variable {src dst fs g}

/-- Starting the whole group: from every source, every destination at anything and the semaphore at zero, to the
    group in flight. -/
theorem wp_startAll [EC.LandsIn (upEmb : UEmb _ 𝕄)] {sm : DmaSem sig} {N : ℕ} (hsrc : ∀ j, (src j).view.WordExact) (hdst : ∀ j, (dst j).view.WordExact)
    (hsem : ∀ j, DmaTarget.Typed (nD := nD) sp (.dma sm) (.here (dst j)))
    (hN : ∀ j, (dst j).view.dmaCredit = N)
    (hland : ∀ (j : Fin n) (fd : Buf Val ((dst j).view.loc c)), ∀ i ∈ (dst j).view.set,
      (dst j).view.write Val fd ((src j).view.read Val (fs j)) Finset.univ i = g j i)
    (Q : PUnit → sProp 𝕄) :
    iprop(bigSep Finset.univ (fun j : Fin n => (src j).view.loc c ↦[(src j).view.set]{fullShare} fs j)
        ∗ bigSep Finset.univ (fun j : Fin n => iprop(∃ fd : Buf Val ((dst j).view.loc c), (dst j).view.loc c ↦[(dst j).view.set]{fullShare} fd))
        ∗ semVal (c, .dma sm) 0)
      ⊢ iprop((flying EC c src dst fs g sm N -∗ Q ⟨⟩)
        -∗ wp frame (wpE defs 𝒱 c bd) Set.univ
            (seqFin n fun j => Prog.lift (.enqueueDma (src j) (.here (dst j)) (.dma sm) (hsrc j) (hdst j) (hsem j))) Q) := by
  iintro ⟨Hs, Hd, Hv⟩ Hk
  iapply (fupd_wp frame (wpE defs 𝒱 c bd) Set.univ)
  imod (Transfers.batch_alloc' (Lvl := ℕ) EC c () N (landed c src dst fs g) (sm := .dma sm) (E := Set.univ)) $$ Hv with HB
  imodintro
  iapply (wp_seqFin (defs := defs) 𝒱 c bd (fun j => iprop(needs c src dst fs j ∗ Batch EC c (.dma sm) () N (landed c src dst fs g) j 0))
    _ ?_ Q) $$ [Hs Hd HB]
  · intro j hj Q
    unfold needs
    rw [Transfers.bigSep_pending_step _ j hj]
    iintro ⟨⟨⟨Hs, ⟨%fd, Hd⟩⟩, HR⟩, HB⟩ Hk
    unfold Prog.lift
    iapply (Transfers.wp_dmaBatch EC 𝒱 c bd (defs := defs) (D := landed c src dst fs g) (fd := fd) () N (sm := .dma sm) (hN ⟨j, hj⟩) (Finset.Subset.refl _) hj (Nat.zero_le _) ?_) $$ [Hs Hd HB]
    · unfold landed
      exact sep_mono_left (Entails.of_eq (pointsTo_congr (hland ⟨j, hj⟩ fd)))
    · isplitl [Hs]; · iexact Hs
      isplitl [Hd]; · iexact Hd
      iexact HB
    iintro HB
    rw [wp_ret]
    imodintro
    iapply Hk
    isplitl [HR]; · iexact HR
    iexact HB
  · isplitl [Hs Hd]
    · unfold needs
      rw [Transfers.pending_zero]
      iapply bigSep_pair
      isplitl [Hs]; · iexact Hs
      iexact Hd
    · iexact HB
  iintro ⟨-, HB⟩
  iapply Hk
  unfold flying
  iexact HB

/-- The state of a group with `k` of its transfers awaited: in flight, or, after the last, landed. -/
def awaited (src : Fin n → Memref sig c.2.kind sp s e) (dst : Fin n → Memref sig c.2.kind sp' s e)
    (fs : (j : Fin n) → Buf Val ((src j).view.loc c)) (g : (j : Fin n) → Buf Val ((dst j).view.loc c))
    (sm : DmaSem sig) (N k : ℕ) : sProp 𝕄 :=
  if k < n then Batch EC c (.dma sm) () N (landed c src dst fs g) n (k * N)
  else iprop(bigSep Finset.univ (landed c src dst fs g) ∗ semVal (c, .dma sm) 0)

/-- Waiting for the whole group: every destination landed, every source back, the semaphore at zero. -/
theorem wp_waitAll [EC.LandsIn (upEmb : UEmb _ 𝕄)] {sm : DmaSem sig} {N : ℕ} (hsrc : ∀ j, (src j).view.WordExact) (hdst : ∀ j, (dst j).view.WordExact)
    (hn : 0 < n) (hN : ∀ j, (dst j).view.dmaCredit = N) (hN0 : 0 < N) (Q : PUnit → sProp 𝕄) :
    iprop(flying EC c src dst fs g sm N ∗ ∃ W, owes c 0 W)
      ⊢ iprop((iprop(bigSep Finset.univ (landed c src dst fs g) ∗ semVal (c, .dma sm) 0 ∗ ∃ W, owes c 0 W) -∗ Q ⟨⟩)
        -∗ wp frame (wpE defs 𝒱 c bd) Set.univ
            (seqFin n fun j => Prog.lift (.waitDma2 sm (src j) (dst j) (hsrc j) (hdst j))) Q) := by
  iintro ⟨HB, HW⟩ Hk
  iapply (wp_seqFin (defs := defs) 𝒱 c bd (fun j => iprop(awaited EC c src dst fs g sm N j ∗ ∃ W, owes c 0 W)) _ ?_ Q) $$ [HB HW]
  · intro j hj Q
    unfold awaited
    rw [if_pos hj]
    iintro ⟨HB, ⟨%W, HW⟩⟩ Hk
    by_cases hl : j + 1 < n
    · rw [if_pos hl]
      unfold Prog.lift
      iapply (Transfers.wp_waitBatch EC 𝒱 c bd (defs := defs) () (hN ⟨j, hj⟩) (u := j * N) (by
        rw [← Nat.succ_mul, Nat.mul_comm N]; exact Nat.mul_lt_mul_of_pos_right hl hN0)) $$ [HB HW]
      · isplitl [HB]; · iexact HB
        iexact HW
      iintro ⟨HB, HW⟩
      rw [wp_ret]
      imodintro
      iapply Hk
      isplitl [HB]
      · rw [Nat.succ_mul]; iexact HB
      iexists _; iexact HW
    · rw [if_neg hl]
      unfold Prog.lift
      have hl : j + 1 = n := by omega
      iapply (Transfers.wp_waitBatchLast EC 𝒱 c bd (defs := defs) () (hN ⟨j, hj⟩) hN0 (u := j * N) (by
        rw [← Nat.succ_mul, Nat.mul_comm N, Nat.succ_eq_add_one, hl])) $$ [HB HW]
      · isplitl [HB]; · iexact HB
        iexact HW
      iintro ⟨HB, HV, HW⟩
      rw [wp_ret]
      imodintro
      iapply Hk
      isplitl [HB HV]
      · isplitl [HB]; · iexact HB
        iexact HV
      iexists _; iexact HW
  · unfold awaited flying
    rw [if_pos hn, Nat.zero_mul]
    isplitl [HB]; · iexact HB
    iexact HW
  unfold awaited
  rw [if_neg (lt_irrefl n)]
  iintro ⟨⟨HB, HV⟩, HW⟩
  iapply Hk
  isplitl [HB]; · iexact HB
  isplitl [HV]; · iexact HV
  iexact HW

end Copies

end Cert.Group

end
-- ==== Proof.Spans.lean ====
/- Spans of a buffer: the elements whose key — a row number — lies in an interval. Holding a span is holding
   its pieces, cut at a point or into equal parts. -/
module

public import Idealize.ShloMosaic.Lib.Batch
public import Idealize.ShloMosaic.Lib.Tactic

@[expose] public section

noncomputable section

namespace Cert.Spans

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The elements whose key lies in `[lo, hi)`. -/
def span {ι : Type} [Fintype ι] (key : ι → ℕ) (lo hi : ℕ) : Finset ι := Finset.univ.filter fun i => lo ≤ key i ∧ key i < hi

section Sets
variable {ι : Type} [Fintype ι] {key : ι → ℕ}

theorem mem_span {lo hi : ℕ} {i : ι} : i ∈ span key lo hi ↔ lo ≤ key i ∧ key i < hi := by
  unfold span; rw [Finset.mem_filter]; exact ⟨fun h => h.2, fun h => ⟨Finset.mem_univ i, h⟩⟩

theorem span_subset {lo hi lo' hi' : ℕ} (h : lo' ≤ lo) (h' : hi ≤ hi') : span key lo hi ⊆ span key lo' hi' := by
  intro i; rw [mem_span, mem_span]; omega

theorem span_univ {hi : ℕ} (h : ∀ i, key i < hi) : span key 0 hi = Finset.univ := by
  ext i; rw [mem_span]; exact ⟨fun _ => Finset.mem_univ i, fun _ => ⟨Nat.zero_le _, h i⟩⟩

theorem span_empty {lo hi : ℕ} (h : hi ≤ lo) : span key lo hi = ∅ := by
  ext i; rw [mem_span]; constructor
  · omega
  · intro h'; exact absurd h' (Finset.notMem_empty i)

variable [DecidableEq ι]

theorem span_union {lo mid hi : ℕ} (h : lo ≤ mid) (h' : mid ≤ hi) : span key lo mid ∪ span key mid hi = span key lo hi := by
  ext i; rw [Finset.mem_union, mem_span, mem_span, mem_span]; omega

theorem span_disjoint {lo mid mid' hi : ℕ} (h : mid ≤ mid') : Disjoint (span key lo mid) (span key mid' hi) := by
  rw [Finset.disjoint_left]; intro i; rw [mem_span, mem_span]; omega

/-- Part `j` of a span cut into `n` parts of `h`: the parts are apart -/
theorem parts_disjoint {lo h j j' : ℕ} (hj : j ≠ j') :
    Disjoint (span key (lo + j * h) (lo + j * h + h)) (span key (lo + j' * h) (lo + j' * h + h)) := by
  rw [Finset.disjoint_left]; intro i; rw [mem_span, mem_span]
  intro h1 h2
  rcases Nat.lt_or_gt_of_ne hj with hlt | hlt
  · have := Nat.mul_le_mul_right h (Nat.succ_le_of_lt hlt); rw [Nat.succ_mul] at this; omega
  · have := Nat.mul_le_mul_right h (Nat.succ_le_of_lt hlt); rw [Nat.succ_mul] at this; omega

/-- and are the span together. -/
theorem parts_union {lo h n : ℕ} :
    (Finset.univ : Finset (Fin n)).biUnion (fun j => span key (lo + j.val * h) (lo + j.val * h + h)) = span key lo (lo + n * h) := by
  ext i
  simp only [Finset.mem_biUnion, Finset.mem_univ, true_and, mem_span]
  constructor
  · rintro ⟨j, h1, h2⟩
    have := Nat.mul_le_mul_right h (Nat.succ_le_of_lt j.isLt); rw [Nat.succ_mul] at this; omega
  · rintro ⟨h1, h2⟩
    have hn : key i - lo < n * h := by omega
    refine ⟨⟨(key i - lo) / h, (Nat.div_lt_iff_lt_mul (Nat.pos_of_ne_zero ?_)).mpr hn⟩, ?_, ?_⟩
    · rintro rfl; omega
    · show lo + (key i - lo) / h * h ≤ key i
      have := Nat.div_mul_le_self (key i - lo) h; omega
    · show key i < lo + (key i - lo) / h * h + h
      have := Nat.lt_div_mul_add (a := key i - lo) (b := h) (Nat.pos_of_ne_zero (by rintro rfl; omega)); omega
end Sets

variable {nD : Nat} {τ : Topo} {sig : RefSig} {Val : EltTy → Type} {U : Type} [URA U]

local notation "𝕄" => MT nD τ sig Unit Val ℕ U ℕ

variable {ℓ : Loc nD τ sig} {key : Idx ℓ → ℕ} {lo mid hi : ℕ} {f g : Buf Val ℓ}

/-- A set of elements held at whatever they hold. -/
def anyOn (ℓ : Loc nD τ sig) (S : Finset (Idx ℓ)) : sProp 𝕄 := iprop(∃ f : Buf Val ℓ, ℓ ↦[S]{fullShare} f)

/-- A span held is its `n` parts held. -/
theorem parts_eq {n h : ℕ} :
    (ℓ ↦[span key lo (lo + n * h)]{fullShare} f : sProp 𝕄)
      = bigSep Finset.univ fun j : Fin n => ℓ ↦[span key (lo + j.val * h) (lo + j.val * h + h)]{fullShare} f := by
  rw [← parts_union]
  exact pointsTo_biUnion _ _ fun j _ j' _ hne => parts_disjoint fun h => hne (Fin.ext h)

/-- A span cut at a point; -/
theorem cut (h : lo ≤ mid) (h' : mid ≤ hi) :
    (ℓ ↦[span key lo hi]{fullShare} f : sProp 𝕄)
      ⊢ iprop((ℓ ↦[span key lo mid]{fullShare} f) ∗ ℓ ↦[span key mid hi]{fullShare} f) := by
  rw [← span_union h h']
  exact (pointsTo_union (span_disjoint (le_refl mid))).1
/-- two adjacent spans put together; -/
theorem glue (h : lo ≤ mid) (h' : mid ≤ hi) :
    iprop((ℓ ↦[span key lo mid]{fullShare} f) ∗ ℓ ↦[span key mid hi]{fullShare} f)
      ⊢ (ℓ ↦[span key lo hi]{fullShare} f : sProp 𝕄) := by
  rw [← span_union h h']
  exact (pointsTo_union (span_disjoint (le_refl mid))).2
/-- whatever they hold; -/
theorem glue_any (h : lo ≤ mid) (h' : mid ≤ hi) :
    iprop(anyOn (Val := Val) (U := U) ℓ (span key lo mid) ∗ anyOn ℓ (span key mid hi)) ⊢ (anyOn ℓ (span key lo hi) : sProp 𝕄) := by
  unfold anyOn
  iintro ⟨⟨%f, Hf⟩, ⟨%g, Hg⟩⟩
  iexists _
  rw [← span_union h h']
  iapply (pointsTo_join (span_disjoint (le_refl mid)))
  isplitl [Hf]; · iexact Hf
  iexact Hg
/-- and a span of unknown contents cut. -/
theorem cut_any (h : lo ≤ mid) (h' : mid ≤ hi) :
    (anyOn ℓ (span key lo hi) : sProp 𝕄) ⊢ iprop(anyOn (Val := Val) (U := U) ℓ (span key lo mid) ∗ anyOn ℓ (span key mid hi)) := by
  unfold anyOn
  iintro ⟨%f, Hf⟩
  ihave H := (cut h h') $$ Hf
  icases H with ⟨H1, H2⟩
  isplitl [H1]
  · iexists f; iexact H1
  · iexists f; iexact H2

/-- Known contents forgotten. -/
theorem forget {S : Finset (Idx ℓ)} : (ℓ ↦[S]{fullShare} f : sProp 𝕄) ⊢ anyOn ℓ S := by
  unfold anyOn
  iintro H; iexists f; iexact H

/-- The parts of a span of unknown contents. -/
theorem parts_any {n h : ℕ} :
    (anyOn ℓ (span key lo (lo + n * h)) : sProp 𝕄)
      ⊢ bigSep Finset.univ fun j : Fin n => anyOn ℓ (span key (lo + j.val * h) (lo + j.val * h + h)) := by
  unfold anyOn
  iintro ⟨%f, H⟩
  iapply (show (ℓ ↦[span key lo (lo + n * h)]{fullShare} f : sProp 𝕄) ⊢ _ from
    (Entails.of_eq parts_eq).trans (bigSep_mono fun j _ => forget)) $$ H

/-- An empty span costs nothing; -/
theorem nothing (h : hi ≤ lo) : (emp : sProp 𝕄) ⊢ (ℓ ↦[span key lo hi]{fullShare} f) := by
  rw [span_empty h, pointsTo_empty]

end Cert.Spans

end
-- ==== Proof.KernelIdeal.Chunks.lean ====
/- The kernel as a schedule of chunks. The twenty chunks, the copies of one chunk as programs over its
   description, and the kernel's body as one program run over the table of chunks. -/
module

public import proofs.«01_k».proof.Proof.Gen.KernelIdeal.Skeleton
public import proofs.«01_k».proof.Proof.Gen.KernelIdeal.Points
public import Idealize.ShloMosaic.Lib.Pipeline.Regions
public import Idealize.ShloMosaic.Lib.Tactic
public import proofs.«01_k».proof.Proof.Group
public import proofs.«01_k».proof.Proof.Spans

@[expose] public section

set_option maxRecDepth 16384

noncomputable section

namespace Cert.KernelIdeal.Own

open Cert.KernelIdeal.Gen
open Idealize.ShloMosaic Idealize.ShloMosaic.TcCoe Idealize.SL Idealize.SL.Sem
open Cert.Group (seqFin)

variable {F : FTy → Type} [FloatOps F]

/-! ## Shapes and memrefs -/

/-- `h` rows of 1024 elements. -/
abbrev Rows (h : ℕ) : Shape := ⟨2, ![h, 1024]⟩
/-- `h` rows of 1024 elements under one leading index. -/
abbrev Slab (h : ℕ) : Shape := ⟨3, ![1, h, 1024]⟩

/-- A slab squeezes to its rows. -/
theorem squeezes_slab (h : ℕ) : (Slab h).Squeezes (Rows h) := by
  show Shape.dropsOnes [1024, h, 1] [1024, h] = true
  simp [Shape.dropsOnes]

theorem numel_slab (h : ℕ) : (Slab h).numel = h * 1024 := by
  simp [Shape.numel, Fin.prod_univ_succ]
theorem numel_rows (h : ℕ) : (Rows h).numel = h * 1024 := by
  simp [Shape.numel, Fin.prod_univ_succ]
/-- A slab and its rows hold as many elements. -/
theorem casts_slab (h : ℕ) : (Slab h).ShapeCasts (Rows h) := by
  show (Rows h).numel = (Slab h).numel
  rw [numel_slab, numel_rows]
theorem casts_rows (h : ℕ) : (Rows h).ShapeCasts (Slab h) := by
  show (Slab h).numel = (Rows h).numel
  rw [numel_slab, numel_rows]

theorem inb_slot {s o h : ℕ} (hs : s < 4) (ho : o + h ≤ 1024) :
    ∀ a, (![s, o, 0] : Fin 3 → ℕ) a + (Slab h).size a ≤ S4x1024x1024.size a := by
  intro a
  match a with
  | 0 => exact hs
  | 1 => exact ho
  | 2 => exact Nat.le_refl _
theorem inb_arr {b o h : ℕ} (hb : b < 4) (ho : o + h ≤ 4096) :
    ∀ a, (![b, o, 0] : Fin 3 → ℕ) a + (Slab h).size a ≤ S4x4096x1024.size a := by
  intro a
  match a with
  | 0 => exact hb
  | 1 => exact ho
  | 2 => exact Nat.le_refl _
theorem inb_emb {o h : ℕ} (ho : o + h ≤ 4096) :
    ∀ a, (![o, 0] : Fin 2 → ℕ) a + (Rows h).size a ≤ S4096x1024.size a := by
  intro a
  match a with
  | 0 => exact ho
  | 1 => exact Nat.le_refl _
theorem inb_sem {s : ℕ} (hs : s < 4) : ∀ a, (![s] : Fin 1 → ℕ) a + S1.size a ≤ S4.size a := by
  intro a
  match a with
  | 0 => exact hs

/-- Rows `o` to `o + h` of slot `s` of a buffer of four slots. -/
abbrev slotRef (M : Memref sig .tc .vmem S4x1024x1024 .f32) {s o h : ℕ} (hs : s < 4) (ho : o + h ≤ 1024) :
    Memref sig .tc .vmem (Rows h) .f32 :=
  (M.slice (Rect.unit (s := S4x1024x1024) ![s, o, 0] (Slab h).size (inb_slot hs ho)) (fun _ => rfl)).squeeze (Rows h) (squeezes_slab h)
/-- Rows `o` to `o + h` of batch entry `b` of a whole array. -/
abbrev arrRef (M : Memref sig .tc .hbm S4x4096x1024 .f32) {b o h : ℕ} (hb : b < 4) (ho : o + h ≤ 4096) :
    Memref sig .tc .hbm (Rows h) .f32 :=
  (M.slice (Rect.unit (s := S4x4096x1024) ![b, o, 0] (Slab h).size (inb_arr hb ho)) (fun _ => rfl)).squeeze (Rows h) (squeezes_slab h)
/-- Rows `o` to `o + h` of a table. -/
abbrev embRef {sp : Space} (M : Memref sig .tc sp S4096x1024 .f32) {o h : ℕ} (ho : o + h ≤ 4096) : Memref sig .tc sp (Rows h) .f32 :=
  M.slice (Rect.unit (s := S4096x1024) ![o, 0] (Rows h).size (inb_emb ho)) (fun _ => rfl)
/-- Semaphore `s` of an array of four. -/
abbrev semRef (A : DmaSems sig S4) {s : ℕ} (hs : s < 4) : DmaSem sig :=
  ((A.slice (Rect.unit (s := S4) ![s] S1.size (inb_sem hs))).squeeze S_ squeezes_S1_S_).sem

/-! ## The chunks -/

/-- A chunk: batch entry `b`, first row `s0`, and `n` copies of `h` rows each, staged in slot `slot`. -/
structure Chunk where
  (slot b s0 n h : ℕ)
  slot_lt : slot < 4
  b_lt : b < 4
  n_pos : 0 < n
  h_pos : 0 < h
  rows_le : s0 + n * h ≤ 4096
  fits : n * h ≤ 1024

namespace Chunk

variable (c : Chunk)

/-- The rows of the chunk. -/
abbrev len : ℕ := c.n * c.h

theorem part_le {j n h m : ℕ} (hj : j < n) (hm : n * h ≤ m) : j * h + h ≤ m :=
  le_trans (by rw [← Nat.succ_mul]; exact Nat.mul_le_mul_right _ hj) hm
theorem in_slot (j : Fin c.n) : j.val * c.h + c.h ≤ 1024 := part_le j.isLt c.fits
theorem in_rows (j : Fin c.n) : c.s0 + j.val * c.h + c.h ≤ 4096 := by
  have := part_le j.isLt (le_refl (c.n * c.h)); have := c.rows_le; omega
theorem all_slot : 0 + c.len ≤ 1024 := by rw [Nat.zero_add]; exact c.fits
theorem len_pos : 0 < c.len := Nat.mul_pos c.n_pos c.h_pos

/-- The `j`-th part of the chunk in the input array, in the table, in the staged table, in the two staging
    buffers and in the result. -/
abbrev x (j : Fin c.n) : Memref sig .tc .hbm (Rows c.h) .f32 := arrRef (Memref.whole main_arg0) c.b_lt (c.in_rows j)
abbrev e (j : Fin c.n) : Memref sig .tc .hbm (Rows c.h) .f32 := embRef (Memref.whole main_arg1) (c.in_rows j)
abbrev ev (j : Fin c.n) : Memref sig .tc .vmem (Rows c.h) .f32 := embRef (Memref.whole cc0_scratch0) (c.in_rows j)
abbrev xb (j : Fin c.n) : Memref sig .tc .vmem (Rows c.h) .f32 := slotRef (Memref.whole cc0_scratch1) c.slot_lt (c.in_slot j)
abbrev ob (j : Fin c.n) : Memref sig .tc .vmem (Rows c.h) .f32 := slotRef (Memref.whole cc0_scratch2) c.slot_lt (c.in_slot j)
abbrev o (j : Fin c.n) : Memref sig .tc .hbm (Rows c.h) .f32 := arrRef (Memref.whole main_v0) c.b_lt (c.in_rows j)

/-- The semaphores on which the chunk's copies in and out complete. -/
abbrev xs : DmaSem sig := semRef cc0_scratch3 c.slot_lt
abbrev es : DmaSem sig := semRef cc0_scratch4 c.slot_lt
abbrev os : DmaSem sig := semRef cc0_scratch5 c.slot_lt

/-- The rectangles the chunk is read and stored at. -/
abbrev bufRect : Rect S4x1024x1024 := Rect.unit (s := S4x1024x1024) ![c.slot, 0, 0] (Slab c.len).size (inb_slot c.slot_lt c.all_slot)
abbrev embRect : Rect S4096x1024 := Rect.unit (s := S4096x1024) ![c.s0, 0] (Rows c.len).size (inb_emb c.rows_le)

theorem slab_pos : 0 < (Slab c.len).numel := by rw [numel_slab]; exact Nat.mul_pos c.len_pos (by decide)
theorem rows_pos : 0 < (Rows c.len).numel := by rw [numel_rows]; exact Nat.mul_pos c.len_pos (by decide)

end Chunk

/-- The chunk of each step. -/
def ch : ℕ → Chunk
  | 0 => ⟨0, 0, 0, 1, 256, by decide, by decide, by decide, by decide, by decide, by decide⟩
  | 1 => ⟨1, 0, 256, 1, 256, by decide, by decide, by decide, by decide, by decide, by decide⟩
  | 2 => ⟨2, 0, 512, 2, 256, by decide, by decide, by decide, by decide, by decide, by decide⟩
  | 3 => ⟨3, 0, 1024, 2, 512, by decide, by decide, by decide, by decide, by decide, by decide⟩
  | 4 => ⟨0, 0, 2048, 2, 512, by decide, by decide, by decide, by decide, by decide, by decide⟩
  | 5 => ⟨1, 0, 3072, 2, 512, by decide, by decide, by decide, by decide, by decide, by decide⟩
  | 6 => ⟨2, 1, 0, 2, 512, by decide, by decide, by decide, by decide, by decide, by decide⟩
  | 7 => ⟨3, 1, 1024, 2, 512, by decide, by decide, by decide, by decide, by decide, by decide⟩
  | 8 => ⟨0, 1, 2048, 2, 512, by decide, by decide, by decide, by decide, by decide, by decide⟩
  | 9 => ⟨1, 1, 3072, 2, 512, by decide, by decide, by decide, by decide, by decide, by decide⟩
  | 10 => ⟨2, 2, 0, 2, 512, by decide, by decide, by decide, by decide, by decide, by decide⟩
  | 11 => ⟨3, 2, 1024, 2, 512, by decide, by decide, by decide, by decide, by decide, by decide⟩
  | 12 => ⟨0, 2, 2048, 2, 512, by decide, by decide, by decide, by decide, by decide, by decide⟩
  | 13 => ⟨1, 2, 3072, 2, 512, by decide, by decide, by decide, by decide, by decide, by decide⟩
  | 14 => ⟨2, 3, 0, 2, 512, by decide, by decide, by decide, by decide, by decide, by decide⟩
  | 15 => ⟨3, 3, 1024, 2, 512, by decide, by decide, by decide, by decide, by decide, by decide⟩
  | 16 => ⟨0, 3, 2048, 2, 512, by decide, by decide, by decide, by decide, by decide, by decide⟩
  | 17 => ⟨1, 3, 3072, 2, 256, by decide, by decide, by decide, by decide, by decide, by decide⟩
  | 18 => ⟨2, 3, 3584, 1, 256, by decide, by decide, by decide, by decide, by decide, by decide⟩
  | _ => ⟨3, 3, 3840, 1, 256, by decide, by decide, by decide, by decide, by decide, by decide⟩

/-! ## The programs -/

/-- The programs of the kernel's processor. -/
abbrev P (F : FTy → Type) [FloatOps F] := Prog (TpuEff nD τ sig (Elt F) Λ₀ .tc) PUnit

/-- Chunk `c`'s copies of the input to its slot, started; -/
def startX (c : Chunk) : P F := seqFin c.n fun j =>
  Prog.lift (.enqueueDma (c.x j) (.here (c.xb j)) (.dma c.xs) ((View.wordExact_bits rfl).reshape _ _) ((View.wordExact_bits rfl).reshape _ _) ⟨Or.inl rfl, trivial⟩)
/-- of the table's rows; -/
def startE (c : Chunk) : P F := seqFin c.n fun j =>
  Prog.lift (.enqueueDma (c.e j) (.here (c.ev j)) (.dma c.es) (View.wordExact_bits rfl) (View.wordExact_bits rfl) ⟨Or.inl rfl, trivial⟩)
/-- of its sums to the result. -/
def startO (c : Chunk) : P F := seqFin c.n fun j =>
  Prog.lift (.enqueueDma (c.ob j) (.here (c.o j)) (.dma c.os) ((View.wordExact_bits rfl).reshape _ _) ((View.wordExact_bits rfl).reshape _ _) ⟨Or.inl rfl, trivial⟩)
/-- The same copies waited for. -/
def waitX (c : Chunk) : P F := seqFin c.n fun j =>
  Prog.lift (.waitDma2 c.xs (c.x j) (c.xb j) ((View.wordExact_bits rfl).reshape _ _) ((View.wordExact_bits rfl).reshape _ _))
def waitE (c : Chunk) : P F := seqFin c.n fun j =>
  Prog.lift (.waitDma2 c.es (c.e j) (c.ev j) (View.wordExact_bits rfl) (View.wordExact_bits rfl))
def waitO (c : Chunk) : P F := seqFin c.n fun j =>
  Prog.lift (.waitDma2 c.os (c.ob j) (c.o j) ((View.wordExact_bits rfl).reshape _ _) ((View.wordExact_bits rfl).reshape _ _))

/-- What a chunk stores: the sum of its input rows and its rows of the table. -/
def sums (L : ℕ) (v : Vec F (Slab L) .f32) (w : Vec F (Rows L) .f32) : FVec F (Slab L) .f32 :=
  shapeCast (Slab L) (addf (shapeCast (Rows L) v (casts_slab L)) w) (casts_rows L)

/-- The chunk's rows read, added and stored. -/
def compute (c : Chunk) : P F := do
  let v : Vec F (Slab c.len) .f32 ← Prog.lift (.load (Memref.whole cc0_scratch1 : Memref sig .tc .vmem S4x1024x1024 .f32) c.bufRect.toLoadRect (View.loadsAt_vmem c.slab_pos))
  let w : Vec F (Rows c.len) .f32 ← Prog.lift (.load (Memref.whole cc0_scratch0 : Memref sig .tc .vmem S4096x1024 .f32) c.embRect.toLoadRect (View.loadsAt_vmem c.rows_pos))
  let _ : Vec F (Slab c.len) .f32 ← Prog.lift (.load (Memref.whole cc0_scratch2 : Memref sig .tc .vmem S4x1024x1024 .f32) c.bufRect.toLoadRect (View.loadsAt_vmem c.slab_pos))
  Prog.lift (.store (Memref.whole cc0_scratch2 : Memref sig .tc .vmem S4x1024x1024 .f32) c.bufRect (sums c.len v w) Finset.univ (View.stores_vmem_bits_univ c.slab_pos rfl) (.inl rfl))

/-- Chunk `k`'s copies in, started: its input, and in the first six its rows of the table; -/
def startTable (k : ℕ) : P F := if k < 6 then startE (ch k) else pure ⟨⟩
def startIn (k : ℕ) : P F := do
  startX (ch k)
  startTable k
/-- waited for. -/
def waitTable (k : ℕ) : P F := if k < 6 then waitE (ch k) else pure ⟨⟩
def waitIn (k : ℕ) : P F := do
  waitX (ch k)
  waitTable k

/-- The copies in of chunk `k`, where there is one, started; -/
def ahead (k : ℕ) : P F := if k < 20 then startIn k else pure ⟨⟩
/-- the copies out of the chunk four before `k`, where there is one, waited for. -/
def back (k : ℕ) : P F := if k < 4 then pure ⟨⟩ else waitO (ch (k - 4))

/-- One step of the schedule: the copies in three chunks ahead started, its own awaited, the copies out of the
    chunk that had its slot awaited, its sums stored and copied out. -/
def step (k : ℕ) : P F := do
  ahead (k + 3)
  waitIn k
  back k
  compute (ch k)
  startO (ch k)

/-- `n` steps from step `k`. -/
def steps : ℕ → ℕ → P F
  | 0, _ => pure ⟨⟩
  | n + 1, k => do step k; steps n (k + 1)

/-- The schedule. -/
def prog : P F := do
  startIn 0
  startIn 1
  startIn 2
  steps 20 0
  waitO (ch 16)
  waitO (ch 17)
  waitO (ch 18)
  waitO (ch 19)

set_option maxRecDepth 65536 in
/-- The kernel's body is the schedule. -/
theorem body_eq (t : Fin cfg0.N) : bodyAt0 (F := F) t = prog := by
  chain_rfl

end Cert.KernelIdeal.Own

end
-- ==== Proof.KernelIdeal.Places.lean ====
/- Where a chunk lies and what it carries. The elements of each part of a chunk as a span of rows, and the
   contents a copy or the store leaves there. -/
module

public import proofs.«01_k».proof.Proof.KernelIdeal.Chunks

@[expose] public section

set_option maxRecDepth 16384

noncomputable section

namespace Cert.KernelIdeal.Own

open Cert.KernelIdeal.Gen Cert.Spans
open Idealize.ShloMosaic Idealize.ShloMosaic.TcCoe Idealize.SL Idealize.SL.Sem

variable {F : FTy → Type} [FloatOps F]

/-! ## Keys: the row of an element, counted through the whole buffer -/

def kA (i : S4x4096x1024.Idx) : ℕ := (i 0).val * 4096 + (i 1).val
def kB (i : S4x1024x1024.Idx) : ℕ := (i 0).val * 1024 + (i 1).val
def kE (i : S4096x1024.Idx) : ℕ := (i 0).val

theorem kA_lt (i : S4x4096x1024.Idx) : kA i < 16384 := by
  have h0 : (i 0).val < 4 := (i 0).isLt
  have h1 : (i 1).val < 4096 := (i 1).isLt
  unfold kA; omega
theorem kB_lt (i : S4x1024x1024.Idx) : kB i < 4096 := by
  have h0 : (i 0).val < 4 := (i 0).isLt
  have h1 : (i 1).val < 1024 := (i 1).isLt
  unfold kB; omega
theorem kE_lt (i : S4096x1024.Idx) : kE i < 4096 := (i 0).isLt

/-! ## Indices by coordinates -/

/-- Element `q` of row `r` of batch entry `b`; -/
def at3 (b r q : ℕ) : S4x4096x1024.Idx := fun a =>
  match a with
  | 0 => ⟨b % 4, Nat.mod_lt _ (by decide)⟩
  | 1 => ⟨r % 4096, Nat.mod_lt _ (by decide)⟩
  | 2 => ⟨q % 1024, Nat.mod_lt _ (by decide)⟩
/-- element `q` of row `r`. -/
def at2 (r q : ℕ) : S4096x1024.Idx := fun a =>
  match a with
  | 0 => ⟨r % 4096, Nat.mod_lt _ (by decide)⟩
  | 1 => ⟨q % 1024, Nat.mod_lt _ (by decide)⟩

theorem at3_eq {b r q : ℕ} {i : S4x4096x1024.Idx} (h0 : (i 0).val = b) (h1 : (i 1).val = r) (h2 : (i 2).val = q) : at3 b r q = i := by
  funext a
  apply Fin.ext
  match a with
  | 0 => exact (Nat.mod_eq_of_lt (h0 ▸ (i 0).isLt)).trans h0.symm
  | 1 => exact (Nat.mod_eq_of_lt (h1 ▸ (i 1).isLt)).trans h1.symm
  | 2 => exact (Nat.mod_eq_of_lt (h2 ▸ (i 2).isLt)).trans h2.symm
theorem at2_eq {r q : ℕ} {i : S4096x1024.Idx} (h0 : (i 0).val = r) (h1 : (i 1).val = q) : at2 r q = i := by
  funext a
  apply Fin.ext
  match a with
  | 0 => exact (Nat.mod_eq_of_lt (h0 ▸ (i 0).isLt)).trans h0.symm
  | 1 => exact (Nat.mod_eq_of_lt (h1 ▸ (i 1).isLt)).trans h1.symm

/-! ## Contents -/

/-- The result: every row of the input with the table's row of the same number added. -/
def total (x : S4x4096x1024.Idx → F .f32) (e : S4096x1024.Idx → F .f32) (i : S4x4096x1024.Idx) : F .f32 :=
  FloatOps.addf (x i) (e (at2 (i 1).val (i 2).val))

namespace Chunk
variable (c : Chunk)

/-- A slot holding chunk `c` of `y`. -/
def held (y : S4x4096x1024.Idx → F .f32) (i : S4x1024x1024.Idx) : F .f32 := y (at3 c.b (c.s0 + (i 1).val) (i 2).val)

/-- The first row of the chunk in an array, and of its slot. -/
abbrev row : ℕ := c.b * 4096 + c.s0
abbrev base : ℕ := c.slot * 1024

/-! ## Elements of the parts -/

theorem set_slot {s o h : ℕ} (hs : s < 4) (ho : o + h ≤ 1024) :
    (Rect.unit (s := S4x1024x1024) ![s, o, 0] (Slab h).size (inb_slot hs ho)).set = span kB (s * 1024 + o) (s * 1024 + o + h) := by
  ext i
  rw [Rect.mem_set_unit, mem_span]
  have h1 : (i 1).val < 1024 := (i 1).isLt
  unfold kB
  constructor
  · intro H
    have a0 : s ≤ (i 0).val ∧ (i 0).val < s + 1 := H 0
    have a1 : o ≤ (i 1).val ∧ (i 1).val < o + h := H 1
    omega
  · intro H a
    match a with
    | 0 => show s ≤ (i 0).val ∧ (i 0).val < s + 1; omega
    | 1 => show o ≤ (i 1).val ∧ (i 1).val < o + h; omega
    | 2 => show 0 ≤ (i 2).val ∧ (i 2).val < 0 + 1024; have : (i 2).val < 1024 := (i 2).isLt; omega
theorem set_arr {b o h : ℕ} (hb : b < 4) (ho : o + h ≤ 4096) :
    (Rect.unit (s := S4x4096x1024) ![b, o, 0] (Slab h).size (inb_arr hb ho)).set = span kA (b * 4096 + o) (b * 4096 + o + h) := by
  ext i
  rw [Rect.mem_set_unit, mem_span]
  have h1 : (i 1).val < 4096 := (i 1).isLt
  unfold kA
  constructor
  · intro H
    have a0 : b ≤ (i 0).val ∧ (i 0).val < b + 1 := H 0
    have a1 : o ≤ (i 1).val ∧ (i 1).val < o + h := H 1
    omega
  · intro H a
    match a with
    | 0 => show b ≤ (i 0).val ∧ (i 0).val < b + 1; omega
    | 1 => show o ≤ (i 1).val ∧ (i 1).val < o + h; omega
    | 2 => show 0 ≤ (i 2).val ∧ (i 2).val < 0 + 1024; have : (i 2).val < 1024 := (i 2).isLt; omega
theorem set_emb {o h : ℕ} (ho : o + h ≤ 4096) :
    (Rect.unit (s := S4096x1024) ![o, 0] (Rows h).size (inb_emb ho)).set = span kE o (o + h) := by
  ext i
  rw [Rect.mem_set_unit, mem_span]
  unfold kE
  constructor
  · intro H
    exact H 0
  · intro H a
    match a with
    | 0 => exact H
    | 1 => show 0 ≤ (i 1).val ∧ (i 1).val < 0 + 1024; have : (i 1).val < 1024 := (i 1).isLt; omega

theorem x_set (j : Fin c.n) : (c.x j).view.set = span kA (c.row + j.val * c.h) (c.row + j.val * c.h + c.h) := by
  rw [show (c.x j).view.set = _ from View.set_reshape _ _]
  exact (View.set_slice_whole _ _).trans ((set_arr c.b_lt (c.in_rows j)).trans (by rw [← Nat.add_assoc]))
theorem o_set (j : Fin c.n) : (c.o j).view.set = span kA (c.row + j.val * c.h) (c.row + j.val * c.h + c.h) := by
  rw [show (c.o j).view.set = _ from View.set_reshape _ _]
  exact (View.set_slice_whole _ _).trans ((set_arr c.b_lt (c.in_rows j)).trans (by rw [← Nat.add_assoc]))
theorem xb_set (j : Fin c.n) : (c.xb j).view.set = span kB (c.base + j.val * c.h) (c.base + j.val * c.h + c.h) := by
  rw [show (c.xb j).view.set = _ from View.set_reshape _ _]
  exact (View.set_slice_whole _ _).trans (set_slot c.slot_lt (c.in_slot j))
theorem ob_set (j : Fin c.n) : (c.ob j).view.set = span kB (c.base + j.val * c.h) (c.base + j.val * c.h + c.h) := by
  rw [show (c.ob j).view.set = _ from View.set_reshape _ _]
  exact (View.set_slice_whole _ _).trans (set_slot c.slot_lt (c.in_slot j))
theorem e_set (j : Fin c.n) : (c.e j).view.set = span kE (c.s0 + j.val * c.h) (c.s0 + j.val * c.h + c.h) :=
  (View.set_slice_whole _ _).trans (set_emb (c.in_rows j))
theorem ev_set (j : Fin c.n) : (c.ev j).view.set = span kE (c.s0 + j.val * c.h) (c.s0 + j.val * c.h + c.h) :=
  (View.set_slice_whole _ _).trans (set_emb (c.in_rows j))
theorem bufRect_set : c.bufRect.set = span kB c.base (c.base + c.len) := set_slot c.slot_lt c.all_slot
theorem embRect_set : c.embRect.set = span kE c.s0 (c.s0 + c.len) := set_emb c.rows_le

/-! ## What the copies and the store leave -/

/-- A copied part of the input lands as the slot's share of the chunk. -/
theorem x_lands (x : S4x4096x1024.Idx → F .f32) (fd : S4x1024x1024.Idx → F .f32) (j : Fin c.n) :
    ∀ i ∈ (c.xb j).view.set, (c.xb j).view.write (Elt F) fd ((c.x j).view.read (Elt F) x) Finset.univ i = c.held x i := by
  intro i hi
  obtain ⟨y, -, rfl⟩ := Finset.mem_map.mp hi
  rw [View.write_emb_of_mem _ _ (Finset.mem_univ y)]
  have hz : (Shape.reshapeEquiv (casts_slab c.h) y 0).val < 1 := (Shape.reshapeEquiv (casts_slab c.h) y 0).isLt
  refine congrArg x (at3_eq ?_ ?_ ?_).symm
  · show c.b + 1 * (Shape.reshapeEquiv (casts_slab c.h) y 0).val = c.b
    omega
  · show c.s0 + j.val * c.h + 1 * (Shape.reshapeEquiv (casts_slab c.h) y 1).val
      = c.s0 + (j.val * c.h + 1 * (Shape.reshapeEquiv (casts_slab c.h) y 1).val)
    omega
  · rfl
/-- A copied part of the table lands as it is. -/
theorem e_lands (e fd : S4096x1024.Idx → F .f32) (j : Fin c.n) :
    ∀ i ∈ (c.ev j).view.set, (c.ev j).view.write (Elt F) fd ((c.e j).view.read (Elt F) e) Finset.univ i = e i := by
  intro i hi
  obtain ⟨y, -, rfl⟩ := Finset.mem_map.mp hi
  rw [View.write_emb_of_mem _ _ (Finset.mem_univ y)]
  rfl
/-- A copied part of a slot lands as the rows the slot holds. -/
theorem o_lands (y fd : S4x4096x1024.Idx → F .f32) (j : Fin c.n) :
    ∀ i ∈ (c.o j).view.set, (c.o j).view.write (Elt F) fd ((c.ob j).view.read (Elt F) (c.held y)) Finset.univ i = y i := by
  intro i hi
  obtain ⟨z, -, rfl⟩ := Finset.mem_map.mp hi
  rw [View.write_emb_of_mem _ _ (Finset.mem_univ z)]
  have hz : (Shape.reshapeEquiv (casts_slab c.h) z 0).val < 1 := (Shape.reshapeEquiv (casts_slab c.h) z 0).isLt
  refine congrArg y (at3_eq ?_ ?_ ?_)
  · show c.b + 1 * (Shape.reshapeEquiv (casts_slab c.h) z 0).val = c.b
    omega
  · show c.s0 + j.val * c.h + 1 * (Shape.reshapeEquiv (casts_slab c.h) z 1).val
      = c.s0 + (j.val * c.h + 1 * (Shape.reshapeEquiv (casts_slab c.h) z 1).val)
    omega
  · rfl

/-- The row of a slab matched with an element of it. -/
theorem row_of (L : ℕ) (z : (Slab L).Idx) :
    (Shape.reshapeEquiv (casts_rows L) z 0).val = (z 1).val ∧ (Shape.reshapeEquiv (casts_rows L) z 1).val = (z 2).val := by
  have e : Shape.reshapeEquiv (casts_rows L) z = fun a => match a with | 0 => z 1 | 1 => z 2 := by
    apply Shape.reshapeEquiv_eq_of_rowMajor
    rw [Shape.rowMajor_val_two, Shape.rowMajor_val_three]
    have hz : (z 0).val < 1 := (z 0).isLt
    show (z 1).val * 1024 + (z 2).val = ((z 0).val * L + (z 1).val) * 1024 + (z 2).val
    rw [show (z 0).val = 0 by omega, Nat.zero_mul, Nat.zero_add]
  rw [e]; exact ⟨rfl, rfl⟩

/-- What the chunk stores in its slot is the slot's share of the result. -/
theorem sums_lands (x : S4x4096x1024.Idx → F .f32) (e : S4096x1024.Idx → F .f32) (fd : S4x1024x1024.Idx → F .f32) :
    ∀ i ∈ c.bufRect.set,
      ((Memref.whole cc0_scratch2 : Memref sig .tc .vmem S4x1024x1024 .f32).access c.bufRect).write (Elt F) fd
        (sums c.len (((Memref.whole cc0_scratch1 : Memref sig .tc .vmem S4x1024x1024 .f32).access c.bufRect).read (Elt F) (c.held x))
          (((Memref.whole cc0_scratch0 : Memref sig .tc .vmem S4096x1024 .f32).access c.embRect).read (Elt F) e)) Finset.univ i
        = c.held (total x e) i := by
  intro i hi
  rw [← Rect.map_emb_univ] at hi
  obtain ⟨z, -, rfl⟩ := Finset.mem_map.mp hi
  refine (View.write_emb_of_mem (v := (Memref.whole cc0_scratch2 : Memref sig .tc .vmem S4x1024x1024 .f32).access c.bufRect) _ _ (Finset.mem_univ z)).trans ?_
  show FloatOps.addf (c.held x (c.bufRect.emb (Shape.reshapeEquiv (casts_slab c.len) (Shape.reshapeEquiv (casts_rows c.len) z))))
      (e (c.embRect.emb (Shape.reshapeEquiv (casts_rows c.len) z))) = FloatOps.addf _ _
  rw [Shape.reshapeEquiv_reshapeEquiv, Shape.reshapeEquiv_self]
  refine congrArg (FloatOps.addf _) (congrArg e ?_)
  obtain ⟨r0, r1⟩ := row_of c.len z
  have hz0 : (z 0).val < 1 := (z 0).isLt
  have hz1 : (z 1).val < c.len := (z 1).isLt
  have hz2 : (z 2).val < 1024 := (z 2).isLt
  have hr : c.s0 + c.len ≤ 4096 := c.rows_le
  refine (at2_eq ?_ ?_).symm
  · show c.s0 + 1 * (Shape.reshapeEquiv (casts_rows c.len) z 0).val = (c.s0 + (0 + 1 * (z 1).val)) % 4096
    rw [r0, Nat.mod_eq_of_lt (by omega)]; omega
  · show 0 + 1 * (Shape.reshapeEquiv (casts_rows c.len) z 1).val = (0 + 1 * (z 2).val) % 1024
    rw [r1, Nat.mod_eq_of_lt (by omega)]

end Chunk

end Cert.KernelIdeal.Own

end
-- ==== Proof.KernelIdeal.Moves.lean ====
/- The copies of one chunk and its sums, each as a step between what is held before and after. -/
module

public import proofs.«01_k».proof.Proof.KernelIdeal.Places
public import Idealize.ShloMosaic.Lib.Pipeline.FrameBody
public import Idealize.ShloMosaic.Lib.Pipeline.FrameValue

@[expose] public section

set_option maxRecDepth 16384

noncomputable section

namespace Cert.KernelIdeal.Own

open Cert.KernelIdeal.Gen Cert.Spans Cert.Group
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters the copies are tracked by. -/
abbrev EC : UEmb Counters 𝕄 := countersEmb (U := Pipeline.UD sig nD τ)

/-- The buffers of device `d`. -/
abbrev LX (d : Dev nD) : Loc nD τ sig := (d : Thread nD τ).loc main_arg0
abbrev LE (d : Dev nD) : Loc nD τ sig := (d : Thread nD τ).loc main_arg1
abbrev LY (d : Dev nD) : Loc nD τ sig := (d : Thread nD τ).loc main_v0
abbrev LV (d : Dev nD) : Loc nD τ sig := (d : Thread nD τ).loc cc0_scratch0
abbrev LB (d : Dev nD) : Loc nD τ sig := (d : Thread nD τ).loc cc0_scratch1
abbrev LC (d : Dev nD) : Loc nD τ sig := (d : Thread nD τ).loc cc0_scratch2

variable {defs : Defs nD τ sig (Elt F) Λ₀} (𝒱 : Variants) (bd : Option 𝒱.V) (d : Dev nD)
variable (x : S4x4096x1024.Idx → F .f32) (e : S4096x1024.Idx → F .f32) (y : S4x4096x1024.Idx → F .f32) (c : Chunk)

/-- Semaphore `s` of this device at zero. -/
abbrev idle (s : DmaSem sig) : sProp 𝕄 := semVal ((d : Thread nD τ), SemLoc.dma s) 0
/-- The device owes nothing. -/
abbrev clear : sProp 𝕄 := iprop(∃ W, owes (d : Thread nD τ) 0 W)

/-! ## Spans as parts -/

theorem x_parts {f : S4x4096x1024.Idx → F .f32} :
    (LX d ↦[span kA c.row (c.row + c.len)]{fullShare} f : sProp 𝕄)
      = bigSep Finset.univ fun j => (c.x j).view.loc (d : Thread nD τ) ↦[(c.x j).view.set]{fullShare} f :=
  parts_eq.trans (bigSep_congr fun j _ => by rw [Chunk.x_set])

theorem o_any :
    (anyOn (LY d) (span kA c.row (c.row + c.len)) : sProp 𝕄)
      ⊢ bigSep Finset.univ fun j => iprop(∃ fd : Buf (Elt F) ((c.o j).view.loc (d : Thread nD τ)), (c.o j).view.loc (d : Thread nD τ) ↦[(c.o j).view.set]{fullShare} fd) :=
  parts_any.trans (Entails.of_eq (bigSep_congr fun j _ => by rw [Chunk.o_set]; rfl))
theorem o_parts {f : S4x4096x1024.Idx → F .f32} :
    (LY d ↦[span kA c.row (c.row + c.len)]{fullShare} f : sProp 𝕄)
      = bigSep Finset.univ fun j => (c.o j).view.loc (d : Thread nD τ) ↦[(c.o j).view.set]{fullShare} f :=
  parts_eq.trans (bigSep_congr fun j _ => by rw [Chunk.o_set])
theorem e_parts {f : S4096x1024.Idx → F .f32} :
    (LE d ↦[span kE c.s0 (c.s0 + c.len)]{fullShare} f : sProp 𝕄)
      = bigSep Finset.univ fun j => (c.e j).view.loc (d : Thread nD τ) ↦[(c.e j).view.set]{fullShare} f :=
  parts_eq.trans (bigSep_congr fun j _ => by rw [Chunk.e_set])
theorem ev_parts {f : S4096x1024.Idx → F .f32} :
    (LV d ↦[span kE c.s0 (c.s0 + c.len)]{fullShare} f : sProp 𝕄)
      = bigSep Finset.univ fun j => (c.ev j).view.loc (d : Thread nD τ) ↦[(c.ev j).view.set]{fullShare} f :=
  parts_eq.trans (bigSep_congr fun j _ => by rw [Chunk.ev_set])
theorem ev_any :
    (anyOn (LV d) (span kE c.s0 (c.s0 + c.len)) : sProp 𝕄)
      ⊢ bigSep Finset.univ fun j => iprop(∃ fd : Buf (Elt F) ((c.ev j).view.loc (d : Thread nD τ)), (c.ev j).view.loc (d : Thread nD τ) ↦[(c.ev j).view.set]{fullShare} fd) :=
  parts_any.trans (Entails.of_eq (bigSep_congr fun j _ => by rw [Chunk.ev_set]; rfl))
theorem xb_parts {f : S4x1024x1024.Idx → F .f32} :
    (LB d ↦[span kB c.base (c.base + c.len)]{fullShare} f : sProp 𝕄)
      = bigSep Finset.univ fun j => (c.xb j).view.loc (d : Thread nD τ) ↦[(c.xb j).view.set]{fullShare} f :=
  parts_eq.trans (bigSep_congr fun j _ => by rw [Chunk.xb_set])
theorem xb_any :
    (anyOn (LB d) (span kB c.base (c.base + c.len)) : sProp 𝕄)
      ⊢ bigSep Finset.univ fun j => iprop(∃ fd : Buf (Elt F) ((c.xb j).view.loc (d : Thread nD τ)), (c.xb j).view.loc (d : Thread nD τ) ↦[(c.xb j).view.set]{fullShare} fd) :=
  parts_any.trans (Entails.of_eq (bigSep_congr fun j _ => by rw [Chunk.xb_set]; rfl))
theorem ob_parts {f : S4x1024x1024.Idx → F .f32} :
    (LC d ↦[span kB c.base (c.base + c.len)]{fullShare} f : sProp 𝕄)
      = bigSep Finset.univ fun j => (c.ob j).view.loc (d : Thread nD τ) ↦[(c.ob j).view.set]{fullShare} f :=
  parts_eq.trans (bigSep_congr fun j _ => by rw [Chunk.ob_set])

/-! ## Copies -/

theorem numel_pos : 0 < (Rows c.h).numel := by rw [numel_rows]; exact Nat.mul_pos c.h_pos (by decide)

/-- The copies of the input into the chunk's slot, in flight. -/
def flyX : sProp 𝕄 :=
  flying EC (d : Thread nD τ) c.x c.xb (fun _ => x) (fun _ => c.held x) c.xs (c.xb ⟨0, c.n_pos⟩).view.dmaCredit

theorem start_X (Q : PUnit → sProp 𝕄) :
    iprop((LX d ↦[span kA c.row (c.row + c.len)]{fullShare} (x)) ∗ anyOn (LB d) (span kB c.base (c.base + c.len)) ∗ idle d c.xs)
      ⊢ iprop((flyX d x c -∗ Q ⟨⟩) -∗ wp frame (wpE defs 𝒱 (d : Thread nD τ) bd) Set.univ (startX (F := F) c) Q) := by
  unfold startX flyX
  rw [x_parts]
  iintro ⟨Hs, Hd, Hv⟩ Hk
  iapply (wp_startAll (defs := defs) EC 𝒱 (d : Thread nD τ) bd (src := c.x) (dst := c.xb) (fs := fun _ => x)
    (g := fun _ => c.held x) (sm := c.xs) (N := (c.xb ⟨0, c.n_pos⟩).view.dmaCredit) _ _ _ (fun _ => rfl) (fun j fd => c.x_lands x fd j) Q) $$ [Hs Hd Hv]
  · isplitl [Hs]; · iexact Hs
    isplitl [Hd]; · iapply (xb_any d c) $$ Hd
    iexact Hv
  iexact Hk

theorem wait_X (Q : PUnit → sProp 𝕄) :
    iprop(flyX d x c ∗ clear d)
      ⊢ iprop((iprop((LX d ↦[span kA c.row (c.row + c.len)]{fullShare} (x)) ∗ (LB d ↦[span kB c.base (c.base + c.len)]{fullShare} (c.held x))
            ∗ idle d c.xs ∗ clear d) -∗ Q ⟨⟩)
        -∗ wp frame (wpE defs 𝒱 (d : Thread nD τ) bd) Set.univ (waitX (F := F) c) Q) := by
  unfold waitX flyX
  iintro H Hk
  iapply (wp_waitAll (defs := defs) EC 𝒱 (d : Thread nD τ) bd (src := c.x) (dst := c.xb) (fs := fun _ => x)
    (g := fun _ => c.held x) (sm := c.xs) (N := (c.xb ⟨0, c.n_pos⟩).view.dmaCredit) _ _ c.n_pos (fun _ => rfl) (View.dmaCredit_pos _ (numel_pos c)) Q) $$ H
  rw [x_parts, xb_parts]
  unfold landed
  iintro ⟨HL, HV, HW⟩
  ihave HL := bigSep_unpair $$ HL
  icases HL with ⟨Hd, Hs⟩
  iapply Hk
  isplitl [Hs]; · iexact Hs
  isplitl [Hd]; · iexact Hd
  isplitl [HV]; · iexact HV
  iexact HW

/-- The copies of the table's rows into the staged table, in flight. -/
def flyE : sProp 𝕄 :=
  flying EC (d : Thread nD τ) c.e c.ev (fun _ => e) (fun _ => e) c.es (c.ev ⟨0, c.n_pos⟩).view.dmaCredit

theorem start_E (Q : PUnit → sProp 𝕄) :
    iprop((LE d ↦[span kE c.s0 (c.s0 + c.len)]{fullShare} (e)) ∗ anyOn (LV d) (span kE c.s0 (c.s0 + c.len)) ∗ idle d c.es)
      ⊢ iprop((flyE d e c -∗ Q ⟨⟩) -∗ wp frame (wpE defs 𝒱 (d : Thread nD τ) bd) Set.univ (startE (F := F) c) Q) := by
  unfold startE flyE
  rw [e_parts]
  iintro ⟨Hs, Hd, Hv⟩ Hk
  iapply (wp_startAll (defs := defs) EC 𝒱 (d : Thread nD τ) bd (src := c.e) (dst := c.ev) (fs := fun _ => e)
    (g := fun _ => e) (sm := c.es) (N := (c.ev ⟨0, c.n_pos⟩).view.dmaCredit) _ _ _ (fun _ => rfl) (fun j fd => c.e_lands e fd j) Q) $$ [Hs Hd Hv]
  · isplitl [Hs]; · iexact Hs
    isplitl [Hd]; · iapply (ev_any d c) $$ Hd
    iexact Hv
  iexact Hk

theorem wait_E (Q : PUnit → sProp 𝕄) :
    iprop(flyE d e c ∗ clear d)
      ⊢ iprop((iprop((LE d ↦[span kE c.s0 (c.s0 + c.len)]{fullShare} (e)) ∗ (LV d ↦[span kE c.s0 (c.s0 + c.len)]{fullShare} (e))
            ∗ idle d c.es ∗ clear d) -∗ Q ⟨⟩)
        -∗ wp frame (wpE defs 𝒱 (d : Thread nD τ) bd) Set.univ (waitE (F := F) c) Q) := by
  unfold waitE flyE
  iintro H Hk
  iapply (wp_waitAll (defs := defs) EC 𝒱 (d : Thread nD τ) bd (src := c.e) (dst := c.ev) (fs := fun _ => e)
    (g := fun _ => e) (sm := c.es) (N := (c.ev ⟨0, c.n_pos⟩).view.dmaCredit) _ _ c.n_pos (fun _ => rfl) (View.dmaCredit_pos _ (numel_pos c)) Q) $$ H
  rw [e_parts, ev_parts]
  unfold landed
  iintro ⟨HL, HV, HW⟩
  ihave HL := bigSep_unpair $$ HL
  icases HL with ⟨Hd, Hs⟩
  iapply Hk
  isplitl [Hs]; · iexact Hs
  isplitl [Hd]; · iexact Hd
  isplitl [HV]; · iexact HV
  iexact HW

/-- The copies of the sums into the result, in flight. -/
def flyO : sProp 𝕄 :=
  flying EC (d : Thread nD τ) c.ob c.o (fun _ => c.held y) (fun _ => y) c.os (c.o ⟨0, c.n_pos⟩).view.dmaCredit

theorem start_O (Q : PUnit → sProp 𝕄) :
    iprop((LC d ↦[span kB c.base (c.base + c.len)]{fullShare} (c.held y)) ∗ anyOn (LY d) (span kA c.row (c.row + c.len)) ∗ idle d c.os)
      ⊢ iprop((flyO d y c -∗ Q ⟨⟩) -∗ wp frame (wpE defs 𝒱 (d : Thread nD τ) bd) Set.univ (startO (F := F) c) Q) := by
  unfold startO flyO
  rw [ob_parts]
  iintro ⟨Hs, Hd, Hv⟩ Hk
  iapply (wp_startAll (defs := defs) EC 𝒱 (d : Thread nD τ) bd (src := c.ob) (dst := c.o) (fs := fun _ => c.held y)
    (g := fun _ => y) (sm := c.os) (N := (c.o ⟨0, c.n_pos⟩).view.dmaCredit) _ _ _ (fun _ => rfl) (fun j fd => c.o_lands y fd j) Q) $$ [Hs Hd Hv]
  · isplitl [Hs]; · iexact Hs
    isplitl [Hd]; · iapply (o_any d c) $$ Hd
    iexact Hv
  iexact Hk

theorem wait_O (Q : PUnit → sProp 𝕄) :
    iprop(flyO d y c ∗ clear d)
      ⊢ iprop((iprop((LC d ↦[span kB c.base (c.base + c.len)]{fullShare} (c.held y)) ∗ (LY d ↦[span kA c.row (c.row + c.len)]{fullShare} (y))
            ∗ idle d c.os ∗ clear d) -∗ Q ⟨⟩)
        -∗ wp frame (wpE defs 𝒱 (d : Thread nD τ) bd) Set.univ (waitO (F := F) c) Q) := by
  unfold waitO flyO
  iintro H Hk
  iapply (wp_waitAll (defs := defs) EC 𝒱 (d : Thread nD τ) bd (src := c.ob) (dst := c.o) (fs := fun _ => c.held y)
    (g := fun _ => y) (sm := c.os) (N := (c.o ⟨0, c.n_pos⟩).view.dmaCredit) _ _ c.n_pos (fun _ => rfl) (View.dmaCredit_pos _ (numel_pos c)) Q) $$ H
  rw [ob_parts, o_parts]
  unfold landed
  iintro ⟨HL, HV, HW⟩
  ihave HL := bigSep_unpair $$ HL
  icases HL with ⟨Hd, Hs⟩
  iapply Hk
  isplitl [Hs]; · iexact Hs
  isplitl [Hd]; · iexact Hd
  isplitl [HV]; · iexact HV
  iexact HW

/-! ## The sums -/

/-- The chunk's rows read, the table's rows read from what is staged of it, and their sums stored in the chunk's
    slot of the outgoing buffer. -/
theorem do_compute {R : ℕ} (hR : c.s0 + c.len ≤ R) (Q : PUnit → sProp 𝕄) :
    iprop((LB d ↦[span kB c.base (c.base + c.len)]{fullShare} (c.held x)) ∗ (LV d ↦[span kE 0 R]{fullShare} e)
        ∗ anyOn (LC d) (span kB c.base (c.base + 1024)))
      ⊢ iprop((iprop((LB d ↦[span kB c.base (c.base + c.len)]{fullShare} (c.held x)) ∗ (LV d ↦[span kE 0 R]{fullShare} e)
            ∗ (LC d ↦[span kB c.base (c.base + c.len)]{fullShare} (c.held (total x e)))
            ∗ anyOn (LC d) (span kB (c.base + c.len) (c.base + 1024))) -∗ Q ⟨⟩)
        -∗ wp frame (wpE defs 𝒱 (d : Thread nD τ) bd) Set.univ (compute (F := F) c) Q) := by
  unfold compute anyOn
  simp only [Prog.bind_lift]
  have hfit : c.base + c.len ≤ c.base + 1024 := Nat.add_le_add_left c.fits _
  have hslot : c.bufRect.set ⊆ span kB c.base (c.base + 1024) := by
    rw [Chunk.bufRect_set]; exact span_subset (le_refl _) hfit
  iintro ⟨HB, HV, ⟨%f, HC⟩⟩ Hk
  iapply (wp_load_rect 𝒱 (d : Thread nD τ) bd Set.univ (m := (Memref.whole cc0_scratch1 : Memref sig .tc .vmem S4x1024x1024 .f32)) (r := c.bufRect)
    (S := span kB c.base (c.base + c.len)) (f := c.held x) (by rw [← Chunk.bufRect_set]; exact (View.set_slice_whole _ _).le)) $$ HB
  iintro HB
  iapply (wp_load_rect 𝒱 (d : Thread nD τ) bd Set.univ (m := (Memref.whole cc0_scratch0 : Memref sig .tc .vmem S4096x1024 .f32)) (r := c.embRect)
    (S := span kE 0 R) (f := e) ((View.set_slice_whole _ _).le.trans (by rw [Chunk.embRect_set]; exact span_subset (Nat.zero_le _) hR))) $$ HV
  iintro HV
  iapply (wp_load_rect 𝒱 (d : Thread nD τ) bd Set.univ (m := (Memref.whole cc0_scratch2 : Memref sig .tc .vmem S4x1024x1024 .f32)) (r := c.bufRect)
    (S := span kB c.base (c.base + 1024)) (f := f) ((View.set_slice_whole _ _).le.trans hslot)) $$ HC
  iintro HC
  unfold Prog.lift
  iapply (wp_store 𝒱 (d : Thread nD τ) bd Set.univ (m := (Memref.whole cc0_scratch2 : Memref sig .tc .vmem S4x1024x1024 .f32)) (r := c.bufRect)
    (S := span kB c.base (c.base + 1024)) (f := f) ((View.set_slice_whole _ _).le.trans hslot)) $$ HC
  iintro HC
  rw [wp_ret]
  imodintro
  iapply Hk
  isplitl [HB]; · iexact HB
  isplitl [HV]; · iexact HV
  ihave HC := (cut (Nat.le_add_right c.base c.len) hfit) $$ HC
  icases HC with ⟨H1, H2⟩
  isplitl [H1]
  · iapply (Entails.of_eq (pointsTo_congr fun i hi => c.sums_lands x e f i (by rw [Chunk.bufRect_set]; exact hi))) $$ H1
  · iexists _; iexact H2

end Cert.KernelIdeal.Own

end
-- ==== Proof.KernelIdeal.Steps.lean ====
/- The schedule run: what is held before each step, one step from there to the next, and the whole schedule. -/
module

public import proofs.«01_k».proof.Proof.KernelIdeal.Moves

@[expose] public section

set_option maxRecDepth 16384

noncomputable section

namespace Cert.KernelIdeal.Own

open Cert.KernelIdeal.Gen Cert.Spans Cert.Group
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The table of chunks -/

/-- The row, through the whole array, at which chunk `k` begins; -/
def T (k : ℕ) : ℕ := if k < 20 then (ch k).row else 16384
/-- the rows of the table staged before chunk `k`. -/
def R (k : ℕ) : ℕ := if k < 6 then (ch k).s0 else 4096

theorem T_eq {k : ℕ} (h : k < 20) : T k = (ch k).row := if_pos h
theorem T_end {k : ℕ} (h : 20 ≤ k) : T k = 16384 := if_neg (by omega)
theorem T_succ {k : ℕ} (h : k < 20) : T (k + 1) = (ch k).row + (ch k).len := by
  revert k; decide
theorem T_le (k : ℕ) : T k ≤ 16384 := by
  by_cases h : k < 20
  · revert k; decide
  · exact (T_end (by omega)).le
theorem T_step {k : ℕ} (h : k < 20) : (ch k).row + (ch k).len ≤ 16384 := by rw [← T_succ h]; exact T_le _
theorem R_eq {k : ℕ} (h : k < 6) : R k = (ch k).s0 := if_pos h
theorem R_end {k : ℕ} (h : 6 ≤ k) : R k = 4096 := if_neg (by omega)
theorem R_succ {k : ℕ} (h : k < 6) : R (k + 1) = (ch k).s0 + (ch k).len := by
  revert k; decide
/-- Chunk `k`'s rows of the table are staged once its copies have landed. -/
theorem R_covers (k : ℕ) : (ch k).s0 + (ch k).len ≤ R (k + 1) := by
  by_cases h : k < 6
  · exact (R_succ h).ge
  · rw [R_end (by omega)]; exact (ch k).rows_le

/-- The slot of step `k`. -/
def sl (k : ℕ) : Fin 4 := ⟨k % 4, Nat.mod_lt _ (by decide)⟩
theorem sl_add (k : ℕ) : sl (k + 4) = sl k := Fin.ext (Nat.add_mod_right k 4)
theorem sl_ch {k : ℕ} (h : k < 20) : sl k = ⟨(ch k).slot, (ch k).slot_lt⟩ := by
  have H : ∀ k < 20, k % 4 = (ch k).slot := by decide
  exact Fin.ext (H k h)

/-! ## What is held -/

variable {defs : Defs nD τ sig (Elt F) Λ₀} (𝒱 : Variants) (bd : Option 𝒱.V) (d : Dev nD)
variable (x : S4x4096x1024.Idx → F .f32) (e : S4096x1024.Idx → F .f32)

/-- A slot free to copy in to; -/
def FreeIn (s : Fin 4) : sProp 𝕄 :=
  iprop(anyOn (LB d) (span kB (s.val * 1024) (s.val * 1024 + 1024)) ∗ idle d (semRef cc0_scratch3 s.isLt) ∗ idle d (semRef cc0_scratch4 s.isLt))
/-- free to store in and copy out of. -/
def FreeOut (s : Fin 4) : sProp 𝕄 :=
  iprop(anyOn (LC d) (span kB (s.val * 1024) (s.val * 1024 + 1024)) ∗ idle d (semRef cc0_scratch5 s.isLt))
/-- Chunk `k`'s rows of the table in flight, where it brings any. -/
def FlyTable (k : ℕ) : sProp 𝕄 := if k < 6 then flyE d e (ch k) else idle d (ch k).es
/-- Chunk `k` in flight in; -/
def FlyIn (k : ℕ) : sProp 𝕄 :=
  iprop(anyOn (LB d) (span kB ((ch k).base + (ch k).len) ((ch k).base + 1024)) ∗ flyX d x (ch k) ∗ FlyTable d e k)
/-- in flight out. -/
def FlyOut (k : ℕ) : sProp 𝕄 :=
  iprop(anyOn (LC d) (span kB ((ch k).base + (ch k).len) ((ch k).base + 1024)) ∗ flyO d (total x e) (ch k))
/-- Chunk `k` in flight in, or its slot free after the last chunk; -/
def In (k : ℕ) : sProp 𝕄 := if k < 20 then FlyIn d x e k else FreeIn d (sl k)
/-- the chunk four before `k` in flight out, or its slot free before the first. -/
def Out (k : ℕ) : sProp 𝕄 := if k < 4 then FreeOut d (sl k) else FlyOut d x e (k - 4)

theorem In_lt {k : ℕ} (h : k < 20) : In d x e k = FlyIn d x e k := if_pos h
theorem In_end {k : ℕ} (h : 20 ≤ k) : In d x e k = FreeIn d (sl k) := if_neg (by omega)
theorem Out_lt {k : ℕ} (h : k < 4) : Out d x e k = FreeOut d (sl k) := if_pos h
theorem Out_add (k : ℕ) : Out d x e (k + 4) = FlyOut d x e k := if_neg (by omega)

/-- The input, and the table with the room it is staged in, from chunk `k` on; -/
def Stock (k : ℕ) : sProp 𝕄 :=
  iprop((LX d ↦[span kA (T k) 16384]{fullShare} x) ∗ (LE d ↦[span kE (R k) 4096]{fullShare} e) ∗ anyOn (LV d) (span kE (R k) 4096))
/-- the input and the table, before and after staging, up to chunk `k`; -/
def Done (k : ℕ) : sProp 𝕄 :=
  iprop((LX d ↦[span kA 0 (T k)]{fullShare} x) ∗ (LE d ↦[span kE 0 (R k)]{fullShare} e) ∗ (LV d ↦[span kE 0 (R k)]{fullShare} e))
/-- the result from chunk `k` on, at anything; -/
def Room (k : ℕ) : sProp 𝕄 := anyOn (LY d) (span kA (T k) 16384)
/-- the result up to chunk `k`. -/
def Made (k : ℕ) : sProp 𝕄 := (LY d ↦[span kA 0 (T k)]{fullShare} (total x e))

/-! ## Copies in -/

theorem start_table {k : ℕ} (Q : PUnit → sProp 𝕄) :
    iprop(idle d (ch k).es ∗ (LE d ↦[span kE (R k) 4096]{fullShare} e) ∗ anyOn (LV d) (span kE (R k) 4096))
      ⊢ iprop((iprop(FlyTable d e k ∗ (LE d ↦[span kE (R (k + 1)) 4096]{fullShare} e) ∗ anyOn (LV d) (span kE (R (k + 1)) 4096)) -∗ Q ⟨⟩)
        -∗ wp frame (wpE defs 𝒱 (d : Thread nD τ) bd) Set.univ (startTable (F := F) k) Q) := by
  unfold startTable FlyTable
  by_cases h : k < 6
  · rw [if_pos h, if_pos h, R_eq h, R_succ h]
    iintro ⟨Hi, He, Hv⟩ Hk
    ihave He := (cut (Nat.le_add_right _ _) (ch k).rows_le) $$ He
    icases He with ⟨He, He'⟩
    ihave Hv := (cut_any (Nat.le_add_right _ _) (ch k).rows_le) $$ Hv
    icases Hv with ⟨Hv, Hv'⟩
    iapply (start_E 𝒱 bd d e (ch k) Q) $$ [Hi He Hv]
    · isplitl [He]; · iexact He
      isplitl [Hv]; · iexact Hv
      iexact Hi
    iintro H
    iapply Hk
    isplitl [H]; · iexact H
    isplitl [He']; · iexact He'
    iexact Hv'
  · rw [if_neg h, if_neg h, R_end (by omega), R_end (by omega), wp_pure]
    iintro H Hk
    imodintro
    iapply Hk
    iexact H

theorem start_in {k : ℕ} (h : k < 20) (Q : PUnit → sProp 𝕄) :
    iprop(FreeIn d (sl k) ∗ Stock d x e k)
      ⊢ iprop((iprop(FlyIn d x e k ∗ Stock d x e (k + 1)) -∗ Q ⟨⟩)
        -∗ wp frame (wpE defs 𝒱 (d : Thread nD τ) bd) Set.univ (startIn (F := F) k) Q) := by
  unfold startIn FlyIn Stock FreeIn
  rw [sl_ch h, T_eq h, T_succ h, wp_bind]
  iintro ⟨⟨Hb, Hx, He⟩, Hsx, Hse, Hsv⟩ Hk
  ihave Hb := (cut_any (Nat.le_add_right _ (ch k).len) (Nat.add_le_add_left (ch k).fits _)) $$ Hb
  icases Hb with ⟨Hb, Hb'⟩
  ihave Hsx := (cut (Nat.le_add_right _ _) (T_step h)) $$ Hsx
  icases Hsx with ⟨Hs, Hsx⟩
  iapply (start_X 𝒱 bd d x (ch k) _) $$ [Hs Hb Hx]
  · isplitl [Hs]; · iexact Hs
    isplitl [Hb]; · iexact Hb
    iexact Hx
  iintro Hfly
  iapply (start_table 𝒱 bd d e Q) $$ [He Hse Hsv]
  · isplitl [He]; · iexact He
    isplitl [Hse]; · iexact Hse
    iexact Hsv
  iintro ⟨Ht, Hse, Hsv⟩
  iapply Hk
  isplitl [Hb' Hfly Ht]
  · isplitl [Hb']; · iexact Hb'
    isplitl [Hfly]; · iexact Hfly
    iexact Ht
  isplitl [Hsx]; · iexact Hsx
  isplitl [Hse]; · iexact Hse
  iexact Hsv

theorem start_ahead {k : ℕ} (Q : PUnit → sProp 𝕄) :
    iprop(FreeIn d (sl k) ∗ Stock d x e k)
      ⊢ iprop((iprop(In d x e k ∗ Stock d x e (k + 1)) -∗ Q ⟨⟩)
        -∗ wp frame (wpE defs 𝒱 (d : Thread nD τ) bd) Set.univ (ahead (F := F) k) Q) := by
  unfold ahead In
  by_cases h : k < 20
  · rw [if_pos h, if_pos h]
    exact start_in 𝒱 bd d x e h Q
  · rw [if_neg h, if_neg h, wp_pure]
    unfold Stock
    rw [T_end (by omega), T_end (by omega), R_end (by omega), R_end (by omega)]
    iintro H Hk
    imodintro
    iapply Hk
    iexact H

theorem wait_table {k : ℕ} (Q : PUnit → sProp 𝕄) :
    iprop(FlyTable d e k ∗ (LE d ↦[span kE 0 (R k)]{fullShare} e) ∗ (LV d ↦[span kE 0 (R k)]{fullShare} e) ∗ clear d)
      ⊢ iprop((iprop(idle d (ch k).es ∗ (LE d ↦[span kE 0 (R (k + 1))]{fullShare} e) ∗ (LV d ↦[span kE 0 (R (k + 1))]{fullShare} e) ∗ clear d) -∗ Q ⟨⟩)
        -∗ wp frame (wpE defs 𝒱 (d : Thread nD τ) bd) Set.univ (waitTable (F := F) k) Q) := by
  unfold waitTable FlyTable
  by_cases h : k < 6
  · rw [if_pos h, if_pos h, R_eq h, R_succ h]
    iintro ⟨Ht, He, Hv, Hc⟩ Hk
    iapply (wait_E 𝒱 bd d e (ch k) Q) $$ [Ht Hc]
    · isplitl [Ht]; · iexact Ht
      iexact Hc
    iintro ⟨He', Hv', Hi, Hc⟩
    iapply Hk
    isplitl [Hi]; · iexact Hi
    isplitl [He He']
    · iapply (glue (Nat.zero_le _) (Nat.le_add_right _ _))
      isplitl [He]; · iexact He
      iexact He'
    isplitl [Hv Hv']
    · iapply (glue (Nat.zero_le _) (Nat.le_add_right _ _))
      isplitl [Hv]; · iexact Hv
      iexact Hv'
    iexact Hc
  · rw [if_neg h, if_neg h, R_end (by omega), R_end (by omega), wp_pure]
    iintro H Hk
    imodintro
    iapply Hk
    iexact H

theorem wait_in {k : ℕ} (h : k < 20) (Q : PUnit → sProp 𝕄) :
    iprop(FlyIn d x e k ∗ Done d x e k ∗ clear d)
      ⊢ iprop((iprop((LB d ↦[span kB (ch k).base ((ch k).base + (ch k).len)]{fullShare} ((ch k).held x))
            ∗ anyOn (LB d) (span kB ((ch k).base + (ch k).len) ((ch k).base + 1024)) ∗ idle d (ch k).xs ∗ idle d (ch k).es
            ∗ Done d x e (k + 1) ∗ clear d) -∗ Q ⟨⟩)
        -∗ wp frame (wpE defs 𝒱 (d : Thread nD τ) bd) Set.univ (waitIn (F := F) k) Q) := by
  unfold waitIn FlyIn Done
  rw [T_eq h, T_succ h, wp_bind]
  iintro ⟨⟨Hb, Hfly, Ht⟩, ⟨Hx, He, Hv⟩, Hc⟩ Hk
  iapply (wait_X 𝒱 bd d x (ch k) _) $$ [Hfly Hc]
  · isplitl [Hfly]; · iexact Hfly
    iexact Hc
  iintro ⟨Hx', Hh, Hi, Hc⟩
  iapply (wait_table 𝒱 bd d e Q) $$ [Ht He Hv Hc]
  · isplitl [Ht]; · iexact Ht
    isplitl [He]; · iexact He
    isplitl [Hv]; · iexact Hv
    iexact Hc
  iintro ⟨Hi', He, Hv, Hc⟩
  iapply Hk
  isplitl [Hh]; · iexact Hh
  isplitl [Hb]; · iexact Hb
  isplitl [Hi]; · iexact Hi
  isplitl [Hi']; · iexact Hi'
  isplitl [Hx Hx' He Hv]
  · isplitl [Hx Hx']
    · iapply (glue (Nat.zero_le _) (Nat.le_add_right _ _))
      isplitl [Hx]; · iexact Hx
      iexact Hx'
    isplitl [He]; · iexact He
    iexact Hv
  iexact Hc

/-! ## Copies out -/

theorem wait_out {k : ℕ} (h : k < 20) (Q : PUnit → sProp 𝕄) :
    iprop(FlyOut d x e k ∗ Made d x e k ∗ clear d)
      ⊢ iprop((iprop(FreeOut d (sl k) ∗ Made d x e (k + 1) ∗ clear d) -∗ Q ⟨⟩)
        -∗ wp frame (wpE defs 𝒱 (d : Thread nD τ) bd) Set.univ (waitO (F := F) (ch k)) Q) := by
  unfold FlyOut Made FreeOut
  rw [T_eq h, T_succ h, sl_ch h]
  iintro ⟨⟨Hb, Hfly⟩, Hy, Hc⟩ Hk
  iapply (wait_O 𝒱 bd d (total x e) (ch k) Q) $$ [Hfly Hc]
  · isplitl [Hfly]; · iexact Hfly
    iexact Hc
  iintro ⟨Hh, Hy', Hi, Hc⟩
  iapply Hk
  isplitl [Hb Hh Hi]
  · isplitl [Hb Hh]
    · iapply (glue_any (Nat.le_add_right _ (ch k).len) (Nat.add_le_add_left (ch k).fits _))
      isplitl [Hh]; · iapply forget $$ Hh
      iexact Hb
    iexact Hi
  isplitl [Hy Hy']
  · iapply (glue (Nat.zero_le _) (Nat.le_add_right _ _))
    isplitl [Hy]; · iexact Hy
    iexact Hy'
  iexact Hc

theorem wait_back {k : ℕ} (h : k < 20) (Q : PUnit → sProp 𝕄) :
    iprop(Out d x e k ∗ Made d x e (k - 4) ∗ clear d)
      ⊢ iprop((iprop(FreeOut d (sl k) ∗ Made d x e (k + 1 - 4) ∗ clear d) -∗ Q ⟨⟩)
        -∗ wp frame (wpE defs 𝒱 (d : Thread nD τ) bd) Set.univ (back (F := F) k) Q) := by
  unfold back Out
  by_cases h4 : k < 4
  · rw [if_pos h4, if_pos h4, wp_pure, show k + 1 - 4 = k - 4 by omega]
    iintro H Hk
    imodintro
    iapply Hk
    iexact H
  · rw [if_neg h4, if_neg h4, show k + 1 - 4 = (k - 4) + 1 by omega, show sl k = sl (k - 4) by
      rw [← sl_add (k - 4), show k - 4 + 4 = k by omega]]
    exact wait_out 𝒱 bd d x e (by omega) Q

theorem start_out {k : ℕ} (h : k < 20) (Q : PUnit → sProp 𝕄) :
    iprop((LC d ↦[span kB (ch k).base ((ch k).base + (ch k).len)]{fullShare} ((ch k).held (total x e)))
        ∗ anyOn (LC d) (span kB ((ch k).base + (ch k).len) ((ch k).base + 1024)) ∗ idle d (ch k).os ∗ Room d k)
      ⊢ iprop((iprop(FlyOut d x e k ∗ Room d (k + 1)) -∗ Q ⟨⟩)
        -∗ wp frame (wpE defs 𝒱 (d : Thread nD τ) bd) Set.univ (startO (F := F) (ch k)) Q) := by
  unfold FlyOut Room
  rw [T_eq h, T_succ h]
  iintro ⟨Hh, Hb, Hi, Hy⟩ Hk
  ihave Hy := (cut_any (Nat.le_add_right _ _) (T_step h)) $$ Hy
  icases Hy with ⟨Hy, Hy'⟩
  iapply (start_O 𝒱 bd d (total x e) (ch k) Q) $$ [Hh Hy Hi]
  · isplitl [Hh]; · iexact Hh
    isplitl [Hy]; · iexact Hy
    iexact Hi
  iintro Hfly
  iapply Hk
  isplitl [Hb Hfly]
  · isplitl [Hb]; · iexact Hb
    iexact Hfly
  iexact Hy'

/-! ## The steps -/

/-- What is held before step `k`. -/
def Inv (k : ℕ) : sProp 𝕄 :=
  iprop(In d x e k ∗ In d x e (k + 1) ∗ In d x e (k + 2) ∗ FreeIn d (sl (k + 3)) ∗ Stock d x e (k + 3) ∗ Done d x e k
    ∗ Out d x e k ∗ Out d x e (k + 1) ∗ Out d x e (k + 2) ∗ Out d x e (k + 3) ∗ Room d k ∗ Made d x e (k - 4) ∗ clear d)

theorem run_step {k : ℕ} (h : k < 20) (Q : PUnit → sProp 𝕄) :
    Inv d x e k ⊢ iprop((Inv d x e (k + 1) -∗ Q ⟨⟩)
      -∗ wp frame (wpE defs 𝒱 (d : Thread nD τ) bd) Set.univ (step (F := F) k) Q) := by
  unfold Inv step
  rw [wp_bind, In_lt d x e h]
  iintro ⟨I0, I1, I2, HF, HS, HD, O0, O1, O2, O3, HR, HM, Hc⟩ Hk
  iapply (start_ahead 𝒱 bd d x e _) $$ [HF HS]
  · isplitl [HF]; · iexact HF
    iexact HS
  iintro ⟨I3, HS⟩
  rw [wp_bind]
  iapply (wait_in 𝒱 bd d x e h _) $$ [I0 HD Hc]
  · isplitl [I0]; · iexact I0
    isplitl [HD]; · iexact HD
    iexact Hc
  unfold Done
  iintro ⟨HB, HB', Hx, He, ⟨D1, D2, D3⟩, Hc⟩
  rw [wp_bind]
  iapply (wait_back 𝒱 bd d x e h _) $$ [O0 HM Hc]
  · isplitl [O0]; · iexact O0
    isplitl [HM]; · iexact HM
    iexact Hc
  rw [sl_ch h]
  unfold FreeOut
  iintro ⟨⟨HC, Ho⟩, HM, Hc⟩
  rw [wp_bind]
  iapply (do_compute 𝒱 bd d x e (ch k) (R_covers k) _) $$ [HB D3 HC]
  · isplitl [HB]; · iexact HB
    isplitl [D3]; · iexact D3
    iexact HC
  iintro ⟨HB, D3, HC, HC'⟩
  iapply (start_out 𝒱 bd d x e h _) $$ [HC HC' Ho HR]
  · isplitl [HC]; · iexact HC
    isplitl [HC']; · iexact HC'
    isplitl [Ho]; · iexact Ho
    iexact HR
  iintro ⟨HO, HR⟩
  iapply Hk
  isplitl [I1]; · iexact I1
  isplitl [I2]; · iexact I2
  isplitl [I3]; · iexact I3
  isplitl [HB HB' Hx He]
  · rw [show k + 1 + 3 = k + 4 by omega, sl_add, sl_ch h]
    unfold FreeIn
    isplitl [HB HB']
    · iapply (glue_any (Nat.le_add_right _ (ch k).len) (Nat.add_le_add_left (ch k).fits _))
      isplitl [HB]; · iapply forget $$ HB
      iexact HB'
    isplitl [Hx]; · iexact Hx
    iexact He
  isplitl [HS]; · iexact HS
  isplitl [D1 D2 D3]
  · isplitl [D1]; · iexact D1
    isplitl [D2]; · iexact D2
    iexact D3
  isplitl [O1]; · iexact O1
  isplitl [O2]; · iexact O2
  isplitl [O3]; · iexact O3
  isplitl [HO]
  · rw [show k + 1 + 3 = k + 4 by omega, Out_add]
    iexact HO
  isplitl [HR]; · iexact HR
  isplitl [HM]; · iexact HM
  iexact Hc

theorem run_steps : ∀ (n k : ℕ) (_ : k + n = 20) (Q : PUnit → sProp 𝕄),
    Inv d x e k ⊢ iprop((Inv d x e 20 -∗ Q ⟨⟩)
      -∗ wp frame (wpE defs 𝒱 (d : Thread nD τ) bd) Set.univ (steps (F := F) n k) Q)
  | 0, k, h, Q => by
    obtain rfl : k = 20 := h
    unfold steps
    rw [wp_pure]
    iintro H Hk
    imodintro
    iapply Hk
    iexact H
  | n + 1, k, h, Q => by
    unfold steps
    rw [wp_bind]
    iintro H Hk
    iapply (run_step 𝒱 bd d x e (by omega) _) $$ H
    iintro H
    iapply (run_steps n (k + 1) (by omega) Q) $$ H
    iexact Hk

/-! ## The whole schedule -/

/-- All four slots free. -/
def AllFree : sProp 𝕄 :=
  iprop(FreeIn d 0 ∗ FreeIn d 1 ∗ FreeIn d 2 ∗ FreeIn d 3 ∗ FreeOut d 0 ∗ FreeOut d 1 ∗ FreeOut d 2 ∗ FreeOut d 3)

/-- The schedule, from every slot free and the arrays whole: the input and the table are as they were, the table is
    staged, the result holds the sums and every slot is free again. -/
theorem run_prog (Q : PUnit → sProp 𝕄) :
    iprop(AllFree d ∗ Stock d x e 0 ∗ Room d 0 ∗ clear d)
      ⊢ iprop((iprop(AllFree d ∗ Done d x e 20 ∗ Made d x e 20 ∗ clear d) -∗ Q ⟨⟩)
        -∗ wp frame (wpE defs 𝒱 (d : Thread nD τ) bd) Set.univ (prog (F := F)) Q) := by
  unfold AllFree prog
  iintro ⟨⟨F0, F1, F2, F3, G0, G1, G2, G3⟩, HS, HR, Hc⟩ Hk
  rw [wp_bind]
  iapply (start_in 𝒱 bd d x e (k := 0) (by decide) _) $$ [F0 HS]
  · isplitl [F0]; · iexact F0
    iexact HS
  iintro ⟨I0, HS⟩
  rw [wp_bind]
  iapply (start_in 𝒱 bd d x e (k := 1) (by decide) _) $$ [F1 HS]
  · isplitl [F1]; · iexact F1
    iexact HS
  iintro ⟨I1, HS⟩
  rw [wp_bind]
  iapply (start_in 𝒱 bd d x e (k := 2) (by decide) _) $$ [F2 HS]
  · isplitl [F2]; · iexact F2
    iexact HS
  iintro ⟨I2, HS⟩
  rw [wp_bind]
  iapply (run_steps 𝒱 bd d x e 20 0 rfl _) $$ [I0 I1 I2 F3 HS G0 G1 G2 G3 HR Hc]
  · unfold Inv
    isplitl [I0]; · rw [In_lt d x e (by decide)]; iexact I0
    isplitl [I1]; · rw [In_lt d x e (by decide)]; iexact I1
    isplitl [I2]; · rw [In_lt d x e (by decide)]; iexact I2
    isplitl [F3]; · iexact F3
    isplitl [HS]; · iexact HS
    isplitr [G0 G1 G2 G3 HR Hc]
    · unfold Done
      isplitl []; · iapply (nothing (le_refl 0)); iempintro
      isplitl []; · iapply (nothing (le_refl 0)); iempintro
      iapply (nothing (le_refl 0)); iempintro
    isplitl [G0]; · rw [Out_lt d x e (by decide)]; iexact G0
    isplitl [G1]; · rw [Out_lt d x e (by decide)]; iexact G1
    isplitl [G2]; · rw [Out_lt d x e (by decide)]; iexact G2
    isplitl [G3]; · rw [Out_lt d x e (by decide)]; iexact G3
    isplitl [HR]; · iexact HR
    isplitr [Hc]
    · unfold Made
      iapply (nothing (le_refl 0)); iempintro
    iexact Hc
  unfold Inv
  rw [In_end d x e (k := 20) (by decide), In_end d x e (k := 20 + 1) (by decide), In_end d x e (k := 20 + 2) (by decide),
    Out_add d x e 16, Out_add d x e 17, Out_add d x e 18, Out_add d x e 19]
  iintro ⟨F0, F1, F2, F3, -, HD, O0, O1, O2, O3, -, HM, Hc⟩
  rw [wp_bind]
  iapply (wait_out 𝒱 bd d x e (k := 16) (by decide) _) $$ [O0 HM Hc]
  · isplitl [O0]; · iexact O0
    isplitl [HM]; · iexact HM
    iexact Hc
  iintro ⟨G0, HM, Hc⟩
  rw [wp_bind]
  iapply (wait_out 𝒱 bd d x e (k := 17) (by decide) _) $$ [O1 HM Hc]
  · isplitl [O1]; · iexact O1
    isplitl [HM]; · iexact HM
    iexact Hc
  iintro ⟨G1, HM, Hc⟩
  rw [wp_bind]
  iapply (wait_out 𝒱 bd d x e (k := 18) (by decide) _) $$ [O2 HM Hc]
  · isplitl [O2]; · iexact O2
    isplitl [HM]; · iexact HM
    iexact Hc
  iintro ⟨G2, HM, Hc⟩
  iapply (wait_out 𝒱 bd d x e (k := 19) (by decide) _) $$ [O3 HM Hc]
  · isplitl [O3]; · iexact O3
    isplitl [HM]; · iexact HM
    iexact Hc
  iintro ⟨G3, HM, Hc⟩
  iapply Hk
  isplitl [F0 F1 F2 F3 G0 G1 G2 G3]
  · isplitl [F0]; · iexact F0
    isplitl [F1]; · iexact F1
    isplitl [F2]; · iexact F2
    isplitl [F3]; · iexact F3
    isplitl [G0]; · iexact G0
    isplitl [G1]; · iexact G1
    isplitl [G2]; · iexact G2
    iexact G3
  isplitl [HD]; · iexact HD
  isplitl [HM]; · iexact HM
  iexact Hc

end Cert.KernelIdeal.Own

end
-- ==== Proof.KernelIdeal.Whole.lean ====
/- The schedule over whole buffers: the slots cut out of their buffers and put together again. -/
module

public import proofs.«01_k».proof.Proof.KernelIdeal.Steps
public import proofs.«01_k».proof.Proof.Gen.KernelIdeal.Launch

@[expose] public section

set_option maxRecDepth 16384

noncomputable section

namespace Cert.KernelIdeal.Own

open Cert.KernelIdeal Cert.KernelIdeal.Gen Cert.Spans Cert.Group
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (d : Dev nD)

/-! ## Whole buffers and the schedule's -/

/-- A buffer of four slots is its slots; -/
theorem slots_apart {ℓ : Loc nD τ sig} {key : Idx ℓ → ℕ} (h : ∀ i, key i < 4096) :
    (anyOn ℓ Finset.univ : sProp 𝕄) ⊢ iprop(anyOn (Val := Elt F) (U := Pipeline.UD sig nD τ) ℓ (span key 0 1024) ∗ anyOn ℓ (span key 1024 2048)
      ∗ anyOn ℓ (span key 2048 3072) ∗ anyOn ℓ (span key 3072 4096)) := by
  rw [← span_univ h]
  iintro H
  ihave H := (cut_any (mid := 1024) (by decide) (by decide)) $$ H
  icases H with ⟨H0, H⟩
  ihave H := (cut_any (mid := 2048) (by decide) (by decide)) $$ H
  icases H with ⟨H1, H⟩
  ihave H := (cut_any (mid := 3072) (by decide) (by decide)) $$ H
  icases H with ⟨H2, H3⟩
  isplitl [H0]; · iexact H0
  isplitl [H1]; · iexact H1
  isplitl [H2]; · iexact H2
  iexact H3
/-- its slots are the buffer. -/
theorem slots_together {ℓ : Loc nD τ sig} {key : Idx ℓ → ℕ} (h : ∀ i, key i < 4096) :
    iprop(anyOn (Val := Elt F) (U := Pipeline.UD sig nD τ) ℓ (span key 0 1024) ∗ anyOn ℓ (span key 1024 2048)
      ∗ anyOn ℓ (span key 2048 3072) ∗ anyOn ℓ (span key 3072 4096)) ⊢ (anyOn ℓ Finset.univ : sProp 𝕄) := by
  rw [← span_univ h]
  iintro ⟨H0, H1, H2, H3⟩
  iapply (glue_any (mid := 1024) (by decide) (by decide))
  isplitl [H0]; · iexact H0
  iapply (glue_any (mid := 2048) (by decide) (by decide))
  isplitl [H1]; · iexact H1
  iapply (glue_any (mid := 3072) (by decide) (by decide))
  isplitl [H2]; · iexact H2
  iexact H3

/-- The two buffers of slots whole and the twelve semaphores at zero; -/
def Resting : sProp 𝕄 :=
  iprop(anyOn (LB d) Finset.univ ∗ anyOn (LC d) Finset.univ
    ∗ idle d 0 ∗ idle d 1 ∗ idle d 2 ∗ idle d 3 ∗ idle d 4 ∗ idle d 5 ∗ idle d 6 ∗ idle d 7 ∗ idle d 8 ∗ idle d 9 ∗ idle d 10 ∗ idle d 11)
/-- all slots free. -/
theorem resting_free : (Resting d : sProp 𝕄) ⊢ AllFree d := by
  unfold Resting AllFree FreeIn FreeOut
  iintro ⟨HB, HC, S0, S1, S2, S3, S4, S5, S6, S7, S8, S9, S10, S11⟩
  ihave HB := (slots_apart (ℓ := LB d) (key := kB) kB_lt) $$ HB
  icases HB with ⟨B0, B1, B2, B3⟩
  ihave HC := (slots_apart (ℓ := LC d) (key := kB) kB_lt) $$ HC
  icases HC with ⟨C0, C1, C2, C3⟩
  isplitl [B0 S0 S4]
  · isplitl [B0]; · iexact B0
    isplitl [S0]; · iexact S0
    iexact S4
  isplitl [B1 S1 S5]
  · isplitl [B1]; · iexact B1
    isplitl [S1]; · iexact S1
    iexact S5
  isplitl [B2 S2 S6]
  · isplitl [B2]; · iexact B2
    isplitl [S2]; · iexact S2
    iexact S6
  isplitl [B3 S3 S7]
  · isplitl [B3]; · iexact B3
    isplitl [S3]; · iexact S3
    iexact S7
  isplitl [C0 S8]
  · isplitl [C0]; · iexact C0
    iexact S8
  isplitl [C1 S9]
  · isplitl [C1]; · iexact C1
    iexact S9
  isplitl [C2 S10]
  · isplitl [C2]; · iexact C2
    iexact S10
  isplitl [C3]; · iexact C3
  iexact S11
/-- Conversely, all slots free are those again. -/
theorem free_resting : (AllFree d : sProp 𝕄) ⊢ Resting d := by
  unfold Resting AllFree FreeIn FreeOut
  iintro ⟨⟨B0, S0, S4⟩, ⟨B1, S1, S5⟩, ⟨B2, S2, S6⟩, ⟨B3, S3, S7⟩, ⟨C0, S8⟩, ⟨C1, S9⟩, ⟨C2, S10⟩, ⟨C3, S11⟩⟩
  isplitl [B0 B1 B2 B3]
  · iapply (slots_together (ℓ := LB d) (key := kB) kB_lt)
    isplitl [B0]; · iexact B0
    isplitl [B1]; · iexact B1
    isplitl [B2]; · iexact B2
    iexact B3
  isplitl [C0 C1 C2 C3]
  · iapply (slots_together (ℓ := LC d) (key := kB) kB_lt)
    isplitl [C0]; · iexact C0
    isplitl [C1]; · iexact C1
    isplitl [C2]; · iexact C2
    iexact C3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexact S11

variable {defs' : Defs nD τ sig (Elt F) Λ₀} (𝒱 : Variants) (bd : Option 𝒱.V)

/-- The schedule over whole buffers: from the input `x`, the table `e` and everything else at anything, the result ends
    at the sums and the arguments are as they were. -/
theorem run_whole (x : S4x4096x1024.Idx → F .f32) (e : S4096x1024.Idx → F .f32) (Q : PUnit → sProp 𝕄) :
    iprop(Resting d ∗ anyOn (LV d) Finset.univ ∗ (LX d ↦{fullShare} x) ∗ (LE d ↦{fullShare} e) ∗ anyOn (LY d) Finset.univ ∗ clear d)
      ⊢ iprop((iprop(Resting d ∗ anyOn (LV d) Finset.univ ∗ (LX d ↦{fullShare} x) ∗ (LE d ↦{fullShare} e) ∗ (LY d ↦{fullShare} (total x e)) ∗ clear d) -∗ Q ⟨⟩)
        -∗ wp frame (wpE defs' 𝒱 (d : Thread nD τ) bd) Set.univ (prog (F := F)) Q) := by
  rw [← span_univ (ι := S4x4096x1024.Idx) kA_lt, ← span_univ (ι := S4096x1024.Idx) kE_lt]
  iintro ⟨HF, HV, HX, HE, HY, Hc⟩ Hk
  iapply (run_prog 𝒱 bd d x e Q) $$ [HF HV HX HE HY Hc]
  · isplitl [HF]; · iapply (resting_free d) $$ HF
    isplitl [HV HX HE]
    · unfold Stock
      isplitl [HX]; · iexact HX
      isplitl [HE]; · iexact HE
      iexact HV
    isplitl [HY]; · unfold Room; iexact HY
    iexact Hc
  unfold Done Made
  iintro ⟨HF, ⟨HX, HE, HV⟩, HY, Hc⟩
  iapply Hk
  isplitl [HF]; · iapply (free_resting d) $$ HF
  isplitl [HV]; · iapply forget $$ HV
  isplitl [HX]; · iexact HX
  isplitl [HE]; · iexact HE
  isplitl [HY]; · iexact HY
  iexact Hc

end Cert.KernelIdeal.Own

end
-- ==== Proof.KernelIdeal.Launch.lean ====
/- The kernel run from its launch: the arguments unchanged, the result at the sums, every semaphore counter at zero. -/
module

public import proofs.«01_k».proof.Proof.KernelIdeal.Whole
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import Idealize.ShloMosaic.Lib.StableHlo.RunHlo

@[expose] public section

set_option maxRecDepth 16384

noncomputable section

namespace Cert.KernelIdeal.Own

open Cert.KernelIdeal Cert.KernelIdeal.Gen Cert.Spans Cert.Group
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What every buffer of core `c` holds at the launch. -/
abbrev V (c : Dev nD) (b : Ref sig .tc) : Buf (Elt F) ((c : Thread nD τ).loc b) := m ((c : Thread nD τ).loc b)

/-- What it holds at the end: the result at the sums, every other buffer as at the launch. -/
def V' (c : Dev nD) : (b : Ref sig .tc) → Buf (Elt F) ((c : Thread nD τ).loc b) :=
  Function.update (V m c) main_v0 (total (F := F) (V m c main_arg0) (V m c main_arg1))

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The semaphores, the arguments and the result -/

/-- The kernel's twelve semaphores. -/
abbrev osem0 : Fin 12 → SemLoc sig := fun j => SemLoc.dma j
theorem ownSemFacts0 : Pipeline.OwnSemFacts cfg0.spec osem0 := by decide

/-- The twelve at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(idle c 0 ∗ idle c 1 ∗ idle c 2 ∗ idle c 3 ∗ idle c 4 ∗ idle c 5 ∗ idle c 6 ∗ idle c 7 ∗ idle c 8 ∗ idle c 9 ∗ idle c 10 ∗ idle c 11) := by
  rw [Pipeline.ownSems0_eq_of_list c osem0 [0, 1, 2, 3, 4, 5, 6, 7, 8, 9, 10, 11] (by decide) (by decide)]; rfl

/-- The arguments, which the body only reads, and the result, which it writes. -/
abbrev H0 : Finset (Ref sig .tc) := {main_arg0, main_arg1}
theorem H0_sub : H0 ⊆ Pipeline.restRefs sig cfg0.spec := by decide
abbrev R0 : Finset (Ref sig .tc) := {main_v0}
theorem R0_sub : R0 ⊆ Pipeline.restRefs sig cfg0.spec \ H0 := by decide

/-- The arguments whole at `W`. -/
theorem args_eq (c : Dev nD) (W : (b : Ref sig .tc) → Buf (Elt F) ((c : Thread nD τ).loc b)) :
    (bigSep H0 (fun b => ((c : Thread nD τ).loc b) ↦{fullShare} W b) : sProp 𝕄)
      = iprop((LX c ↦{fullShare} W main_arg0) ∗ (LE c ↦{fullShare} W main_arg1)) := by
  rw [BI.bigSep_eq_bigSepL_of_eq [main_arg0, main_arg1] (by decide) (by decide)]; rfl
/-- The result whole at `W`. -/
theorem result_eq (c : Dev nD) (W : (b : Ref sig .tc) → Buf (Elt F) ((c : Thread nD τ).loc b)) :
    (Pipeline.routed R0 c W : sProp 𝕄) = iprop(LY c ↦{fullShare} W main_v0) := by
  unfold Pipeline.routed
  rw [BI.bigSep_eq_bigSepL_of_eq [main_v0] (by decide) (by decide)]; rfl

/-! ## The body between its two states -/

/-- All the region's memory and semaphores, the result at `G`. -/
abbrev Held (G : (c : Dev nD) → (b : Ref sig .tc) → Buf (Elt F) ((c : Thread nD τ).loc b)) (c : Dev nD) : sProp 𝕄 :=
  Pipeline.ΦDRG (nD := nD) (τ := τ) (sig := sig) osem0 cfg0.spec H0 R0 (V m) G c

theorem held_eq (G : (c : Dev nD) → (b : Ref sig .tc) → Buf (Elt F) ((c : Thread nD τ).loc b)) (c : Dev nD) :
    (Held m G c : sProp 𝕄)
      = iprop((anyOn (LV c) Finset.univ ∗ anyOn (LB c) Finset.univ ∗ anyOn (LC c) Finset.univ)
        ∗ (∃ r, prngReg c r)
        ∗ (idle c 0 ∗ idle c 1 ∗ idle c 2 ∗ idle c 3 ∗ idle c 4 ∗ idle c 5 ∗ idle c 6 ∗ idle c 7 ∗ idle c 8 ∗ idle c 9 ∗ idle c 10 ∗ idle c 11)
        ∗ ((LX c ↦{fullShare} V m c main_arg0) ∗ (LE c ↦{fullShare} V m c main_arg1)) ∗ (LY c ↦{fullShare} G c main_v0)) := by
  rw [Held, Pipeline.ΦDRG_eq, args_eq, ownSems00_eq, result_eq]
  rw [scopedRest0_eq]; rfl

/-- The pipeline's data: no windows, and the region's state before and after its one point. -/
def dats (_ : Fin 1) (c : Dev nD) : Dat τ (Elt F) Unit ℕ (Pipeline.UD sig nD τ) ℕ cfg0 c where
  A w := w.elim0
  after w := w.elim0
  Φ t := if t = 0 then Held m (V m) c else Held m (V' m) c
  q _ := fullShare
  owed _ := 0

theorem A_eq (c : Dev nD) (w : Fin cfg0.W) : (dats m 0 c).A w = V m c (Pipeline.arrRef cfg0.spec w) := w.elim0

theorem before_eq (c : Dev nD) (t : Fin cfg0.N) : (dats m 0 c).Φ t.castSucc = Held m (V m) c := by
  rw [fin_N0 t]; rfl
theorem after_eq (c : Dev nD) (t : Fin cfg0.N) : (dats m 0 c).Φ t.succ = Held m (V' m) c := by
  rw [fin_N0 t]; rfl

/-- The body takes the one state to the other. -/
theorem body_held (c : Dev nD) (t : Fin cfg0.N) :
    iprop(Held m (V m) c ∗ clear c) ⊢ wp frame (wpE (defs₀ (F := F)) Variants.none (c : Thread nD τ) none) Set.univ (bodyAt0 (F := F) t)
      (fun _ => iprop(Held m (V' m) c ∗ clear c)) := by
  rw [body_eq, held_eq, held_eq]
  iintro ⟨⟨⟨HV, HB, HC⟩, Hp, HS, ⟨HX, HE⟩, HY⟩, Hc⟩
  iapply (run_whole c Variants.none none (V m c main_arg0) (V m c main_arg1) _) $$ [HV HB HC HS HX HE HY Hc]
  · unfold Resting
    isplitl [HB HC HS]
    · isplitl [HB]; · iexact HB
      isplitl [HC]; · iexact HC
      iexact HS
    isplitl [HV]; · iexact HV
    isplitl [HX]; · iexact HX
    isplitl [HE]; · iexact HE
    isplitl [HY]; · unfold anyOn; iexists _; iexact HY
    iexact Hc
  unfold Resting
  iintro ⟨⟨HB, HC, HS⟩, HV, HX, HE, HY, Hc⟩
  isplitr [Hc]
  · isplitl [HV HB HC]
    · isplitl [HV]; · iexact HV
      isplitl [HB]; · iexact HB
      iexact HC
    isplitl [Hp]; · iexact Hp
    isplitl [HS]; · iexact HS
    isplitl [HX HE]
    · isplitl [HX]; · iexact HX
      iexact HE
    iapply (Entails.of_eq (by rw [V', Function.update_self])) $$ HY
  iexact Hc

/-- No window holds anything. -/
theorem bigSep_W0 (Φ : Fin cfg0.W → sProp 𝕄) : bigSep Finset.univ Φ = iprop(emp) := by
  rw [show (Finset.univ : Finset (Fin cfg0.W)) = ∅ from rfl, bigSep_empty]; rfl

theorem defs₀_row (t : Fin cfg0.N) : defs₀ (F := F) .tc cfg0.body (cfg0.bodyArgs t (cfg0.slots t)) = bodyAt0 t := by
  unfold defs₀; rw [Defs.onTc_tc]

/-- The same in the launch's words. -/
theorem body_obligation (c : Dev nD) : BodyObligation (dats (F := F) m 0 c) (defs₀ (F := F)) Variants.none () Set.univ := fun t => by
  rw [bigSep_W0, bigSep_W0, defs₀_row, before_eq, after_eq]
  unfold Dat.owesAt Pipeline.owesWithin
  rw [show (dats m 0 c).owed t.castSucc = 0 from rfl, show (dats m 0 c).owed t.succ = 0 from rfl]
  refine triple_restated (body_held m c t) rfl ?_ fun _ => ?_
  · unfold clear
    iintro ⟨HH, ⟨%W, -, HW⟩, -⟩
    isplitl [HH]; · iexact HH
    iexists W; iexact HW
  · unfold clear
    iintro ⟨HH, ⟨%W, HW⟩⟩
    isplitl [HH]; · iexact HH
    isplitl [HW]
    · iexists W
      isplitr
      · ipureintro; exact fun _ _ => Or.inl trivial
      iexact HW
    iempintro

/-! ## The run -/

set_option backward.isDefEq.respectTransparency.types false in
/-- Every weakly fair execution from any memory with zero counters terminates, with the result at the sums, every other
    buffer outside the kernel as at the launch, and every counter at zero. -/
theorem run_main : θ_run defs (onTc (τ := τ) (main (F := F))) (s₀ m ρ)
    (fun r => Pipeline.FramePostRG cfgs (dats m) 0 R0 (V m) (V' m) r ∧ r.2.sem = fun _ => 0) :=
  Pipeline.θ_run_frame_dmaRG (Q' := _) cfgs (dats m) (0 : Fin 1) launch0 osem0 defs₀ Variants.none ownSemFacts0 H0 R0 H0_sub R0_sub
    m ρ main (hbody := fun c => (body_obligation m c).loose) (hshare := fun c => (dats m 0 c).share_full fun _ => rfl)
    (howed := fun _ _ => rfl) (V := V m) (hmain := hmain m Variants.none) (hA := A_eq m) (G := V' m)
    (hin := fun c => .rfl) (hout := fun c => .rfl)

/-- An argument ends as it was. -/
theorem arg_kept {r} (h : Pipeline.FramePostRG cfgs (dats m) 0 R0 (V m) (V' m) r) (c : Dev nD) (b : Ref sig .tc)
    (hb : b ∈ Pipeline.restRefs sig cfg0.spec \ R0) : r.2.mem ((c : Thread nD τ).loc b) = m ((c : Thread nD τ).loc b) :=
  (h.toR c).2 b hb
theorem arg0_mem : main_arg0 ∈ Pipeline.restRefs sig cfg0.spec \ R0 := by decide
theorem arg1_mem : main_arg1 ∈ Pipeline.restRefs sig cfg0.spec \ R0 := by decide

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun _ h => ⟨fun c => ⟨arg_kept m h.1 c _ arg0_mem, arg_kept m h.1 c _ arg1_mem⟩, h.2⟩

/-- The value: the result is the sums of the input and the table, the arguments unchanged. -/
theorem value : θ_run defs (onTc (τ := τ) (main (F := F))) ⟨m, fun _ => 0, ρ⟩ (fun r => ∀ c : Dev nD,
      r.2.mem ((c.tc : Thread nD τ).loc main_v0) = total (F := F) (V m c main_arg0) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run_main m ρ) fun _ h c =>
    ⟨(h.1.written c (by decide)).trans (Function.update_self ..), arg_kept m h.1 c _ arg0_mem, arg_kept m h.1 c _ arg1_mem⟩

end Cert.KernelIdeal.Own

end
-- ==== Proof.Reference.lean ====
/- The reference. Its take along axis 0, at the positions 0, 1, …, 4095, reads each row of the table as it is: every
   position is in range, so no negative one is wrapped and none is filled. Its result at an index is the input's element
   there plus the table's at the index's row and column. -/
module

public import proofs.«01_k».proof.Proof.Gen.ReferenceIdeal.Read
public import Idealize.ShloMosaic.Lib.Routing.Ops
public import Idealize.ShloMosaic.Lib.ReduceAll

@[expose] public section

noncomputable section

namespace Cert.ReferenceIdeal.Own

open Cert.ReferenceIdeal Cert.ReferenceIdeal.Gen Cert.ReferenceIdeal.Read Idealize.ShloMosaic

variable {F : FTy → Type} [FloatOps F]

/-- A small number's word, read signed, is the number. -/
theorem word_toInt {n : ℕ} (h : n < 4096) : (BitVec.ofNat 32 n).toInt = n := by
  rw [BitVec.toInt_eq_toNat_of_lt (by rw [BitVec.toNat_ofNat]; omega), BitVec.toNat_ofNat]; omega

/-- The position at `j` is `j`: it is not negative, so it is not wrapped. -/
theorem position (j : S4096.Idx) : val_main_call0_v4 (F := F) j = BitVec.ofNat 32 (j 0).val := by
  have hj : (j 0).val < 4096 := (j 0).isLt
  have h : IntOp.cmpi .slt (BitVec.ofNat 32 (j 0).val) 0#32 = 0#1 := by
    show BitVec.ofBool (BitVec.slt _ _) = _
    rw [BitVec.slt_eq_decide, word_toInt hj, decide_eq_false (by simp)]; rfl
  rw [val_main_call0_v4_apply, val_main_call0_v1_apply, val_main_call0_v0_apply, val_main_call0_c_apply, val_main_v0_apply, h]
  rfl

/-- The same in the column of start indices. -/
theorem start (k : S4096x1.Idx) : val_main_call0_v5 (F := F) k = BitVec.ofNat 32 (k 0).val := by
  rw [val_main_call0_v5_apply, position]

/-- Each position is in range. -/
theorem in_range (k : S4096x1.Idx) : val_main_call0_v11 (F := F) k = 1#1 := by
  have hk : (k 0).val < 4096 := (k 0).isLt
  have h0 : IntOp.cmpi .sge (BitVec.ofNat 32 (k 0).val) 0#32 = 1#1 := by
    show BitVec.ofBool (BitVec.sle _ _) = _
    rw [BitVec.sle_eq_decide, word_toInt hk, decide_eq_true (by simp)]; rfl
  have h1 : IntOp.cmpi .sle (BitVec.ofNat 32 (k 0).val) 4095#32 = 1#1 := by
    show BitVec.ofBool (BitVec.sle _ _) = _
    rw [BitVec.sle_eq_decide, word_toInt hk, decide_eq_true (by show ((k 0).val : ℤ) ≤ 4095; omega)]; rfl
  rw [val_main_call0_v11_apply, val_main_call0_v7_apply, val_main_call0_v10_apply, val_main_call0_v6_apply, val_main_call0_v9_apply,
    val_main_call0_v8_apply, val_main_call0_c_1_apply, val_main_call0_c_2_apply, start, h0, h1]
  rfl

/-- So the row's guard holds. -/
theorem guard (j : S4096.Idx) : val_main_call0_v12 (F := F) j = 1#1 :=
  Host.reduce_andi_one _ _ _ _ _ rfl in_range

/-- The gather reads the table at the row itself. -/
theorem gathered (e : S4096x1024.Idx → F .f32) (i : S4096x1024.Idx) : val_main_call0_v13 (F := F) e i = e i := by
  have hi : (ValueIdx.ix2 (i 0) (i 1) : S4096x1024.Idx) = i := by funext a; match a with | ⟨0, _⟩ => rfl | ⟨1, _⟩ => rfl
  rw [← hi]
  unfold val_main_call0_v13
  exact Routing.gather_row gather_S4096x1024_S4096x1_S4096x1024_1_0_n_n_0_1_11024 rfl rfl rfl rfl rfl e _ (i 0) (i 1) (i 0)
    (start _) (by norm_num)

/-- The taken rows are the table. -/
theorem taken (e : S4096x1024.Idx → F .f32) (i : S4096x1024.Idx) : val_main_v1 (F := F) e i = e i := by
  rw [val_main_v1_apply, val_main_call0_v14_apply, guard, gathered]; rfl

/-- The reference's result at an index. -/
theorem result (x : S4x4096x1024.Idx → F .f32) (e : S4096x1024.Idx → F .f32) (i : S4x4096x1024.Idx) :
    val_main_v4 (F := F) x e i = FloatOps.addf (x i) (e (idx_main_v2 (idx_main_v3 i))) := by
  rw [val_main_v4_apply, val_main_v3_apply, val_main_v2_apply, taken]

end Cert.ReferenceIdeal.Own

end
-- ==== Proof.Equation.lean ====
/- The kernel's sums and the reference's result are the same array. -/
module

public import proofs.«01_k».proof.Proof.KernelIdeal.Places
public import proofs.«01_k».proof.Proof.Reference

@[expose] public section

noncomputable section

namespace Cert.Equation

open Cert.KernelIdeal Idealize.ShloMosaic

variable {F : FTy → Type} [FloatOps F]

/-- The input plus the table's row at each position, as the kernel leaves it, is what the reference computes. -/
theorem same (x : S4x4096x1024.Idx → F .f32) (e : S4096x1024.Idx → F .f32) :
    Cert.ReferenceIdeal.Read.val_main_v4 (F := F) x e = Cert.KernelIdeal.Own.total x e := by
  funext i
  refine (Cert.ReferenceIdeal.Own.result x e i).trans ?_
  show FloatOps.addf (x i) (e _) = FloatOps.addf (x i) (e (Cert.KernelIdeal.Own.at2 (i 1).val (i 2).val))
  refine congrArg (fun k => FloatOps.addf (x i) (e k)) ?_
  exact (Cert.KernelIdeal.Own.at2_eq rfl rfl).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelIdeal.Launch
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem

/-- The kernel's frame. The printed kernel and its ideal reading are the same text, so the run, proved for any floats,
    is the kernel's at the machine's floats. -/
theorem frame_kernel : Cert.quiescent_Kernel := fun m ρ _ => Cert.KernelIdeal.Own.frame (F := Bits) m ρ

/-- The ideal kernel's frame. -/
theorem frame_ideal : Cert.quiescent_KernelIdeal := fun m ρ _ => Cert.KernelIdeal.Own.frame (F := Ideal) m ρ

/-- The reference's frame: no operation writes an argument, and it has no semaphore. -/
theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

/-- Kernel and reference, from the same arguments, end with the same array: the input plus the table's row at each
    position. -/
theorem equal : Cert.algebraic_KernelIdeal_ReferenceIdeal := fun m ρ m' ρ' _ hargs =>
  ⟨fun c => Cert.KernelIdeal.Own.total (F := Ideal) (Cert.KernelIdeal.Own.V m c Cert.KernelIdeal.main_arg0) (Cert.KernelIdeal.Own.V m c Cert.KernelIdeal.main_arg1),
    Cert.KernelIdeal.Own.value (F := Ideal) m ρ,
    θ_run_mono (Cert.ReferenceIdeal.Value.run (F := Ideal) m' ρ') fun r h c =>
      ⟨(h c).1.trans (by
          rw [Cert.ReferenceIdeal.Read.val_main_v4_eq, (hargs c).1, (hargs c).2]
          exact Cert.Equation.same (F := Ideal) _ _),
        (h c).2⟩⟩

theorem claim : Cert.Claim := ⟨Cert.Kernel.Gen.facts, Cert.KernelIdeal.Gen.facts, Cert.ReferenceIdeal.Gen.facts,
  frame_kernel, frame_ideal, frame_reference, trivial, equal⟩

end Cert.Proof

end
